-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log2_e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x3072 : Shape := ⟨3, ![2, 1024, 3072]⟩
abbrev S2x1024x512 : Shape := ⟨3, ![2, 1024, 512]⟩
abbrev S24 : Shape := ⟨1, ![24]⟩
abbrev S2x1024x4 : Shape := ⟨3, ![2, 1024, 4]⟩
abbrev S2x4x1024 : Shape := ⟨3, ![2, 4, 1024]⟩
abbrev S8x1x1024 : Shape := ⟨3, ![8, 1, 1024]⟩
abbrev S1x1024x768 : Shape := ⟨3, ![1, 1024, 768]⟩
abbrev S1x1024x128 : Shape := ⟨3, ![1, 1024, 128]⟩
abbrev S1x1x1024 : Shape := ⟨3, ![1, 1, 1024]⟩
abbrev S128x1024 : Shape := ⟨2, ![128, 1024]⟩
abbrev S1024x128 : Shape := ⟨2, ![1024, 128]⟩
abbrev S1x1024 : Shape := ⟨2, ![1, 1024]⟩
abbrev S128x128 : Shape := ⟨2, ![128, 128]⟩
abbrev S1 : Shape := ⟨1, ![1]⟩
abbrev S1x256x128 : Shape := ⟨3, ![1, 256, 128]⟩
abbrev S256x128 : Shape := ⟨2, ![256, 128]⟩
abbrev S256x256 : Shape := ⟨2, ![256, 256]⟩
abbrev S4x32x128 : Shape := ⟨3, ![4, 32, 128]⟩
abbrev S32x128 : Shape := ⟨2, ![32, 128]⟩
abbrev S128 : Shape := ⟨1, ![128]⟩
abbrev S1x128 : Shape := ⟨2, ![1, 128]⟩
abbrev S8x32x128 : Shape := ⟨3, ![8, 32, 128]⟩
abbrev S128x256 : Shape := ⟨2, ![128, 256]⟩
abbrev S1x256 : Shape := ⟨2, ![1, 256]⟩
abbrev S1x512x128 : Shape := ⟨3, ![1, 512, 128]⟩
abbrev S512x128 : Shape := ⟨2, ![512, 128]⟩
abbrev S512x256 : Shape := ⟨2, ![512, 256]⟩
abbrev S384x128 : Shape := ⟨2, ![384, 128]⟩
abbrev S12x32x128 : Shape := ⟨3, ![12, 32, 128]⟩
abbrev S16x32x128 : Shape := ⟨3, ![16, 32, 128]⟩
abbrev S128x512 : Shape := ⟨2, ![128, 512]⟩
abbrev S1x768x128 : Shape := ⟨3, ![1, 768, 128]⟩
abbrev S768x128 : Shape := ⟨2, ![768, 128]⟩
abbrev S768x256 : Shape := ⟨2, ![768, 256]⟩
abbrev S640x128 : Shape := ⟨2, ![640, 128]⟩
abbrev S20x32x128 : Shape := ⟨3, ![20, 32, 128]⟩
abbrev S24x32x128 : Shape := ⟨3, ![24, 32, 128]⟩
abbrev S128x768 : Shape := ⟨2, ![128, 768]⟩
abbrev S1024x256 : Shape := ⟨2, ![1024, 256]⟩
abbrev S896x128 : Shape := ⟨2, ![896, 128]⟩
abbrev S28x32x128 : Shape := ⟨3, ![28, 32, 128]⟩
abbrev S32x32x128 : Shape := ⟨3, ![32, 32, 128]⟩

abbrev nBuf : Space → Nat
  | .hbm => 11
  | .vmem => 14
  | .smem => 1
  | _ => 0

abbrev bufTy : (tb : Table) → Fin (tcTables nBuf tb) → BufTy
  | .hbm, ⟨0, _⟩ => ⟨S2x1024x3072, .fp8e4m3⟩
  | .hbm, ⟨1, _⟩ => ⟨S2x1024x512, .fp8e4m3⟩
  | .hbm, ⟨2, _⟩ => ⟨S2x1024x512, .fp8e4m3⟩
  | .hbm, ⟨3, _⟩ => ⟨S24, .f32⟩
  | .hbm, ⟨4, _⟩ => ⟨S2x1024x4, .f32⟩
  | .hbm, ⟨5, _⟩ => ⟨S2x1024x4, .f32⟩
  | .hbm, ⟨6, _⟩ => ⟨S2x4x1024, .f32⟩
  | .hbm, ⟨7, _⟩ => ⟨S8x1x1024, .f32⟩
  | .hbm, ⟨8, _⟩ => ⟨S2x4x1024, .f32⟩
  | .hbm, ⟨9, _⟩ => ⟨S8x1x1024, .f32⟩
  | .hbm, ⟨10, _⟩ => ⟨S2x1024x3072, .bf16⟩
  | .local _ .vmem, ⟨0, _⟩ => ⟨S1x1024x768, .fp8e4m3⟩
  | .local _ .vmem, ⟨1, _⟩ => ⟨S1x1024x768, .fp8e4m3⟩
  | .local _ .vmem, ⟨2, _⟩ => ⟨S1x1024x128, .fp8e4m3⟩
  | .local _ .vmem, ⟨3, _⟩ => ⟨S1x1024x128, .fp8e4m3⟩
  | .local _ .vmem, ⟨4, _⟩ => ⟨S1x1024x128, .fp8e4m3⟩
  | .local _ .vmem, ⟨5, _⟩ => ⟨S1x1024x128, .fp8e4m3⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024x768, .bf16⟩
  | .local _ .vmem, ⟨11, _⟩ => ⟨S1x1024x768, .bf16⟩
  | .local _ .vmem, ⟨12, _⟩ => ⟨S128x1024, .bf16⟩
  | .local _ .vmem, ⟨13, _⟩ => ⟨S1024x128, .f32⟩
  | .local _ .smem, ⟨0, _⟩ => ⟨S24, .f32⟩
  | _, _ => ⟨S2x1024x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 4], ![false, false]⟩

def k0_off1 (i : grid0.Coords) (c0_i32 : BitVec 32) : Fin 1 → Nat :=
  let arg1 : BitVec 32 := BitVec.ofNat 32 (i 1).val
  let c6_i32 : BitVec 32 := 6#32
  let v23 : BitVec 32 := Scalar.muli arg1 c6_i32
  let v24 : BitVec 32 := Scalar.addi v23 c0_i32
  let v25 : Index := Scalar.indexCast v24
  ![v25.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S24 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x768 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "log2_e" => some (((Real.log 2)⁻¹ : ℝ) : EReal)
  | _ => none
-- ==== ReferenceIdeal.lean ====
abbrev S2x1024x3072 : Shape := ⟨3, ![2, 1024, 3072]⟩
abbrev S2x1024x512 : Shape := ⟨3, ![2, 1024, 512]⟩
abbrev S24 : Shape := ⟨1, ![24]⟩
abbrev S2x1024x4 : Shape := ⟨3, ![2, 1024, 4]⟩
abbrev S2x1024x4x6x128 : Shape := ⟨5, ![2, 1024, 4, 6, 128]⟩
abbrev S2x1024x4x128 : Shape := ⟨4, ![2, 1024, 4, 128]⟩
abbrev S_ : Shape := ⟨0, ![]⟩
abbrev S4x6 : Shape := ⟨2, ![4, 6]⟩
abbrev S1x4x6x1x1 : Shape := ⟨5, ![1, 4, 6, 1, 1]⟩
abbrev S2x4x1024x1024x6 : Shape := ⟨5, ![2, 4, 1024, 1024, 6]⟩
abbrev S2x4x6x1024x1024 : Shape := ⟨5, ![2, 4, 6, 1024, 1024]⟩
abbrev S2x4x1024 : Shape := ⟨3, ![2, 4, 1024]⟩
abbrev S2x4x1x1x1024 : Shape := ⟨5, ![2, 4, 1, 1, 1024]⟩
abbrev S1024 : Shape := ⟨1, ![1024]⟩
abbrev S1x1024 : Shape := ⟨2, ![1, 1024]⟩
abbrev S1024x1 : Shape := ⟨2, ![1024, 1]⟩
abbrev S1024x1024 : Shape := ⟨2, ![1024, 1024]⟩
abbrev S2x4x6x1024 : Shape := ⟨4, ![2, 4, 6, 1024]⟩
abbrev S2x4x6x1024x1 : Shape := ⟨5, ![2, 4, 6, 1024, 1]⟩
abbrev S2x4x128x6x1024 : Shape := ⟨5, ![2, 4, 128, 6, 1024]⟩

abbrev nBuf : Space → Nat
  | .hbm => 60
  | .vmem => 6
  | .smem => 0
  | _ => 0

abbrev bufTy : (tb : Table) → Fin (tcTables nBuf tb) → BufTy
  | .hbm, ⟨0, _⟩ => ⟨S2x1024x3072, .fp8e4m3⟩
  | .hbm, ⟨1, _⟩ => ⟨S2x1024x512, .fp8e4m3⟩
  | .hbm, ⟨2, _⟩ => ⟨S2x1024x512, .fp8e4m3⟩
  | .hbm, ⟨3, _⟩ => ⟨S24, .f32⟩
  | .hbm, ⟨4, _⟩ => ⟨S2x1024x4, .f32⟩
  | .hbm, ⟨5, _⟩ => ⟨S2x1024x4, .f32⟩
  | .hbm, ⟨6, _⟩ => ⟨S2x1024x3072, .f32⟩
  | .hbm, ⟨7, _⟩ => ⟨S2x1024x512, .f32⟩
  | .hbm, ⟨8, _⟩ => ⟨S2x1024x512, .f32⟩
  | .hbm, ⟨9, _⟩ => ⟨S2x1024x4x6x128, .f32⟩
  | .hbm, ⟨10, _⟩ => ⟨S2x1024x4x128, .f32⟩
  | .hbm, ⟨11, _⟩ => ⟨S2x1024x4x128, .f32⟩
  | .hbm, ⟨12, _⟩ => ⟨S_, .f32⟩
  | .hbm, ⟨13, _⟩ => ⟨S24, .f32⟩
  | .hbm, ⟨14, _⟩ => ⟨S24, .f32⟩
  | .hbm, ⟨15, _⟩ => ⟨S4x6, .f32⟩
  | .hbm, ⟨16, _⟩ => ⟨S1x4x6x1x1, .f32⟩
  | .hbm, ⟨17, _⟩ => ⟨S2x4x1024x1024x6, .f32⟩
  | .hbm, ⟨18, _⟩ => ⟨S2x4x6x1024x1024, .f32⟩
  | .hbm, ⟨19, _⟩ => ⟨S2x4x6x1024x1024, .f32⟩
  | .hbm, ⟨20, _⟩ => ⟨S2x4x6x1024x1024, .f32⟩
  | .hbm, ⟨21, _⟩ => ⟨S2x4x1024, .f32⟩
  | .hbm, ⟨22, _⟩ => ⟨S2x4x1x1x1024, .f32⟩
  | .hbm, ⟨23, _⟩ => ⟨S2x4x6x1024x1024, .f32⟩
  | .hbm, ⟨24, _⟩ => ⟨S2x4x6x1024x1024, .f32⟩
  | .hbm, ⟨25, _⟩ => ⟨S1024, .i32⟩
  | .hbm, ⟨26, _⟩ => ⟨S1x1024, .i32⟩
  | .hbm, ⟨27, _⟩ => ⟨S1024x1, .i32⟩
  | .hbm, ⟨28, _⟩ => ⟨S1024x1024, .i32⟩
  | .hbm, ⟨29, _⟩ => ⟨S1024x1024, .i32⟩
  | .hbm, ⟨30, _⟩ => ⟨S1024x1024, .i1⟩
  | .hbm, ⟨31, _⟩ => ⟨S_, .f32⟩
  | .hbm, ⟨32, _⟩ => ⟨S_, .f32⟩
  | .hbm, ⟨33, _⟩ => ⟨S2x4x6x1024x1024, .i1⟩
  | .hbm, ⟨34, _⟩ => ⟨S2x4x6x1024x1024, .f32⟩
  | .hbm, ⟨35, _⟩ => ⟨S2x4x6x1024x1024, .f32⟩
  | .hbm, ⟨36, _⟩ => ⟨S_, .f32⟩
  | .hbm, ⟨37, _⟩ => ⟨S2x4x6x1024, .f32⟩
  | .hbm, ⟨38, _⟩ => ⟨S2x4x6x1024x1, .f32⟩
  | .hbm, ⟨39, _⟩ => ⟨S2x4x6x1024x1024, .f32⟩
  | .hbm, ⟨40, _⟩ => ⟨S2x4x6x1024x1024, .f32⟩
  | .hbm, ⟨41, _⟩ => ⟨S2x4x6x1024x1024, .f32⟩
  | .hbm, ⟨42, _⟩ => ⟨S_, .f32⟩
  | .hbm, ⟨43, _⟩ => ⟨S2x4x6x1024, .f32⟩
  | .hbm, ⟨44, _⟩ => ⟨S2x4x6x1024x1, .f32⟩
  | .hbm, ⟨45, _⟩ => ⟨S_, .f32⟩
  | .hbm, ⟨46, _⟩ => ⟨S2x4x6x1024x1, .f32⟩
  | .hbm, ⟨47, _⟩ => ⟨S2x4x6x1024x1, .f32⟩
  | .hbm, ⟨48, _⟩ => ⟨S2x4x6x1024x1024, .f32⟩
  | .hbm, ⟨49, _⟩ => ⟨S2x4x6x1024x1024, .f32⟩
  | .hbm, ⟨50, _⟩ => ⟨S2x4x1024, .f32⟩
  | .hbm, ⟨51, _⟩ => ⟨S2x4x1x1x1024, .f32⟩
  | .hbm, ⟨52, _⟩ => ⟨S2x4x6x1024x1024, .f32⟩
  | .hbm, ⟨53, _⟩ => ⟨S2x4x6x1024x1024, .f32⟩
  | .hbm, ⟨54, _⟩ => ⟨S2x4x6x1024x1024, .bf16⟩
  | .hbm, ⟨55, _⟩ => ⟨S2x1024x4x128, .bf16⟩
  | .hbm, ⟨56, _⟩ => ⟨S2x4x128x6x1024, .f32⟩
  | .hbm, ⟨57, _⟩ => ⟨S2x1024x4x6x128, .f32⟩
  | .hbm, ⟨58, _⟩ => ⟨S2x1024x4x6x128, .bf16⟩
  | .hbm, ⟨59, _⟩ => ⟨S2x1024x3072, .bf16⟩
  | .local _ .vmem, ⟨0, _⟩ => ⟨S2x1024x3072, .fp8e4m3⟩
  | .local _ .vmem, ⟨1, _⟩ => ⟨S2x1024x512, .fp8e4m3⟩
  | .local _ .vmem, ⟨2, _⟩ => ⟨S2x1024x512, .fp8e4m3⟩
  | .local _ .vmem, ⟨3, _⟩ => ⟨S2x1024x3072, .f32⟩
  | .local _ .vmem, ⟨4, _⟩ => ⟨S2x1024x512, .f32⟩
  | .local _ .vmem, ⟨5, _⟩ => ⟨S2x1024x512, .f32⟩
  | _, _ => ⟨S2x1024x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_0 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v22 : Ref sig .tc := ⟨.hbm, 35, rfl⟩
abbrev main_cst_1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x1024x3072 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x512 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024x512 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.ReferenceValue.lean ====
/- The reference's result as one expression of its six arguments, in the stages its lines are written in. -/
module

public import proofs.«01_k».proof.Proof.Gen.ReferenceIdeal.Frame
public import Idealize.ShloMosaic.Lib.Pipeline.ValueKit
public import Idealize.ShloMosaic.Lib.StableHlo.RunRead

@[expose] public section

noncomputable section

namespace Cert.ReferenceIdeal.Hand

open Cert.ReferenceIdeal Cert.ReferenceIdeal.Gen Idealize.ShloMosaic Idealize.ShloMosaic.TcCoe Idealize.SL.Sem

/-! ## The stages -/

section
variable (x : FVec Ideal S2x1024x3072 .f32) (k v : FVec Ideal S2x1024x512 .f32) (qs : FVec Ideal S24 .f32) (ks vs : FVec Ideal S2x1024x4 .f32)

/-- A scale of the keys, along the last axis of the scores. -/
def overKeys : FVec Ideal S2x4x6x1024x1024 .f32 :=
  broadcastInDim S2x4x6x1024x1024 ![0, 1, 2, 3, 4] bcast_S2x4x1x1x1024_S2x4x6x1024x1024_0_1_2_3_4
    (broadcastInDim S2x4x1x1x1024 ![0, 1, 4] bcast_S2x4x1024_S2x4x1x1x1024_0_1_4
      (transpose S2x4x1024 [0, 2, 1] ks transposes_S2x1024x4_S2x4x1024_0_2_1))

/-- The query scales times the score scale, over the scores. -/
def overHeads : FVec Ideal S2x4x6x1024x1024 .f32 :=
  broadcastInDim S2x4x6x1024x1024 ![0, 1, 2, 3, 4] bcast_S1x4x6x1x1_S2x4x6x1024x1024_0_1_2_3_4
    (broadcastInDim S1x4x6x1x1 ![1, 2] bcast_S4x6_S1x4x6x1x1_1_2
      (shapeCast S4x6 (mulf qs (broadcastInDim S24 ![] bcast_S_S24 (constant (F := Ideal) S_ .f32 0x3DB504F3#32))) shapeCasts_S24_S4x6))

/-- Queries against keys. -/
def rRaw : FVec Ideal S2x4x6x1024x1024 .f32 :=
  transpose S2x4x6x1024x1024 [0, 1, 4, 3, 2]
    (Host.dotGeneral dot_S2x1024x4x128_S2x1024x4x6x128_S2x4x1024x1024x6_3_4_1_13_02_02 none
      (shapeCast S2x1024x4x128 k shapeCasts_S2x1024x512_S2x1024x4x128)
      (shapeCast S2x1024x4x6x128 x shapeCasts_S2x1024x3072_S2x1024x4x6x128) : FVec Ideal S2x4x1024x1024x6 .f32)
    transposes_S2x4x1024x1024x6_S2x4x6x1024x1024_0_1_4_3_2

/-- Where a key is not after the query. -/
def rVisible : IVec S1024x1024 1 :=
  cmpi .sle (broadcastInDim S1024x1024 ![0, 1] bcast_S1x1024_S1024x1024_0_1 (broadcastInDim S1x1024 ![1] bcast_S1024_S1x1024_1 (iotaInDim S1024 32 0)))
    (broadcastInDim S1024x1024 ![0, 1] bcast_S1024x1_S1024x1024_0_1 (broadcastInDim S1024x1 ![0] bcast_S1024_S1024x1_0 (iotaInDim S1024 32 0)))

/-- The masked scores. -/
def rScore : FVec Ideal S2x4x6x1024x1024 .f32 :=
  select (broadcastInDim S2x4x6x1024x1024 ![3, 4] bcast_S1024x1024_S2x4x6x1024x1024_3_4 rVisible)
    (mulf (mulf (rRaw x k) (overHeads qs)) (overKeys ks))
    (broadcastInDim S2x4x6x1024x1024 ![] bcast_S_S2x4x6x1024x1024 (constant (F := Ideal) S_ .f32 0xFF800000#32))

/-- One value per query, along the keys. -/
def alongKeys (z : FVec Ideal S2x4x6x1024x1 .f32) : FVec Ideal S2x4x6x1024x1024 .f32 :=
  broadcastInDim S2x4x6x1024x1024 ![0, 1, 2, 3, 4] bcast_S2x4x6x1024x1_S2x4x6x1024x1024_0_1_2_3_4 z

/-- One value per query, as a column. -/
def column (z : FVec Ideal S2x4x6x1024 .f32) : FVec Ideal S2x4x6x1024x1 .f32 :=
  broadcastInDim S2x4x6x1024x1 ![0, 1, 2, 3] bcast_S2x4x6x1024_S2x4x6x1024x1_0_1_2_3 z

/-- The softmax numerators of scores `s`. -/
def rExp (s : FVec Ideal S2x4x6x1024x1024 .f32) : FVec Ideal S2x4x6x1024x1024 .f32 :=
  Host.exp (subf s (alongKeys (column (Host.reduce FloatOps.maximumf s (constant (F := Ideal) S_ .f32 0xFF800000#32)
    reducesTo_S2x4x6x1024x1024_S2x4x6x1024_d4 h_S_))))

/-- The softmax of numerators `e`, times the value scales. -/
def rProb (e : FVec Ideal S2x4x6x1024x1024 .f32) : FVec Ideal S2x4x6x1024x1024 .f32 :=
  mulf (mulf e (alongKeys (Host.divf (broadcastInDim S2x4x6x1024x1 ![] bcast_S_S2x4x6x1024x1 (constant (F := Ideal) S_ .f32 0x3F800000#32))
    (column (Host.reduceAdd e (constant (F := Ideal) S_ .f32 0x00000000#32) reducesTo_S2x4x6x1024x1024_S2x4x6x1024_d4 h_S_))))) (overKeys vs)

/-- The weighted sums of the values, laid out as the result. -/
def rMix (p : FVec Ideal S2x4x6x1024x1024 .f32) : FVec Ideal S2x1024x3072 .bf16 :=
  shapeCast S2x1024x3072 (truncf .bf16 (transpose S2x1024x4x6x128 [0, 4, 1, 3, 2]
    (Host.dotGeneral dot_S2x1024x4x128_S2x4x6x1024x1024_S2x4x128x6x1024_1_4_3_23_02_01 none
      (truncf .bf16 (shapeCast S2x1024x4x128 v shapeCasts_S2x1024x512_S2x1024x4x128) bitsLt_bf16_f32)
      (truncf .bf16 p bitsLt_bf16_f32) : FVec Ideal S2x4x128x6x1024 .f32)
    transposes_S2x4x128x6x1024_S2x1024x4x6x128_0_4_1_3_2) bitsLt_bf16_f32) shapeCasts_S2x1024x4x6x128_S2x1024x3072

/-- The reference's result. -/
def rOut : FVec Ideal S2x1024x3072 .bf16 := rMix v (rProb vs (rExp (rScore x k qs ks)))

end

/-! ## The lines read back -/

/-- The lines' result, from the arrays they find. -/
theorem tail_eq (W : Valuation τ sig (Elt Ideal)) :
    StableHlo.after ([hostOps1, hostOps1_1, hostOps1_2] : List (List (HloOp τ sig (Elt Ideal)))).flatten W (Proc.devRef .tc main_v43)
      = rOut (W (Proc.devRef .tc main_v0_0)) (W (Proc.devRef .tc main_v0_1)) (W (Proc.devRef .tc main_v0_2))
          (W (Proc.devRef .tc main_arg3)) (W (Proc.devRef .tc main_arg4)) (W (Proc.devRef .tc main_arg5)) := by
  simp only [List.flatten_cons, List.flatten_nil, List.append_nil, List.cons_append, List.nil_append]
  after_reads_simp
  rfl

end Cert.ReferenceIdeal.Hand

end
-- ==== Proof.ReferenceRun.lean ====
/- The reference's run: it ends with its result at `rOut` of the arguments. -/
module

public import proofs.«01_k».proof.Proof.ReferenceValue

@[expose] public section

noncomputable section

namespace Cert.ReferenceIdeal.Hand

open Cert.ReferenceIdeal Cert.ReferenceIdeal.Gen Idealize.ShloMosaic Idealize.ShloMosaic.TcCoe Idealize.SL.Sem

variable (m : (ℓ : Loc nD τ sig) → Buf (Elt Ideal) ℓ) (ρ : Dev nD → PrngReg)

/-! ## The upcast arrays -/

/-- Each array of the upcast is one whole block. -/
theorem idx (t : Fin cfg0.N) : win0_0.index t = ![0, 0, 0] ∧ win0_1.index t = ![0, 0, 0] ∧ win0_2.index t = ![0, 0, 0]
    ∧ win0_3.index t = ![0, 0, 0] ∧ win0_4.index t = ![0, 0, 0] ∧ win0_5.index t = ![0, 0, 0] := by
  revert t; decide +kernel

/-- The upcast queries are the queries. -/
theorem arr3 (c : Dev nD) : (dats m 0 c).arrAt 3 cfg0.N = (m ((c : Thread nD τ).loc main_arg0) : S2x1024x3072.Idx → EReal) := by
  refine (dats m 0 c).arrAt_eq_of_covers 3 _ (by decide +kernel) fun t hf y => ?_
  blk_simp
  rw [after0_3]
  frame_out
  obtain ⟨i0, i1, i2, i3, i4, i5⟩ := idx t
  show iblk m c 0 t y = _
  unfold iblk
  rw [V_main_arg0]
  blk_ext [i0, i3]

/-- The upcast keys are the keys. -/
theorem arr4 (c : Dev nD) : (dats m 0 c).arrAt 4 cfg0.N = (m ((c : Thread nD τ).loc main_arg1) : S2x1024x512.Idx → EReal) := by
  refine (dats m 0 c).arrAt_eq_of_covers 4 _ (by decide +kernel) fun t hf y => ?_
  blk_simp
  rw [after0_4]
  frame_out
  obtain ⟨i0, i1, i2, i3, i4, i5⟩ := idx t
  show iblk m c 1 t y = _
  unfold iblk
  rw [V_main_arg1]
  blk_ext [i1, i4]

/-- The upcast values are the values. -/
theorem arr5 (c : Dev nD) : (dats m 0 c).arrAt 5 cfg0.N = (m ((c : Thread nD τ).loc main_arg2) : S2x1024x512.Idx → EReal) := by
  refine (dats m 0 c).arrAt_eq_of_covers 5 _ (by decide +kernel) fun t hf y => ?_
  blk_simp
  rw [after0_5]
  frame_out
  obtain ⟨i0, i1, i2, i3, i4, i5⟩ := idx t
  show iblk m c 2 t y = _
  unfold iblk
  rw [V_main_arg2]
  blk_ext [i2, i5]

/-- The reference's run. -/
theorem run : θ_run defs (onTc (τ := τ) (main (F := Ideal))) ⟨m, fun _ => 0, ρ⟩ fun r => ∀ c : Dev nD,
      r.2.mem ((c.tc : Thread nD τ).loc main_v43)
        = rOut (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨?_, h.2 c⟩) (θ_run_and (run_main m ρ) (unchanged m ρ))
  refine (((h.1 c).2 main_v43 (Pipeline.mem_restRefs_of main_v43 (by decide) (by decide))).trans ?_)
  unfold Pipeline.afterTail₀
  rw [tail_eq]
  have hW (w : Fin (cfgs 0).W) := Pipeline.withArrays_arr (cfgs 0).spec (by decide) c (V0 m c) (fun w => (dats m 0 c).arrAt w (cfgs 0).N) w
  have hN (b : Ref sig .tc) := Pipeline.withArrays_of_ne (cfgs 0).spec c (V0 m c) (fun w => (dats m 0 c).arrAt w (cfgs 0).N) b
  rw [show Pipeline.withArrays _ _ _ _ (Proc.devRef .tc main_v0_0) = _ from (hW 3).trans (arr3 m c),
    show Pipeline.withArrays _ _ _ _ (Proc.devRef .tc main_v0_1) = _ from (hW 4).trans (arr4 m c),
    show Pipeline.withArrays _ _ _ _ (Proc.devRef .tc main_v0_2) = _ from (hW 5).trans (arr5 m c),
    hN main_arg3 (by decide), hN main_arg4 (by decide), hN main_arg5 (by decide)]
  rfl

end Cert.ReferenceIdeal.Hand

end
-- ==== Proof.Math.lean ====
/- The equation between the two programs, over the extended reals: a softmax taken base two of scores scaled by
   `1/ln 2` and multiplied into the values before its division is the softmax taken base `e`, divided first. -/
module

public import Idealize.ShloMosaic.Lib.Pointwise

@[expose] public section

noncomputable section

namespace Cert.Attn

open Idealize.ShloMosaic

/-! ## The extended reals -/

/-- A positive real factor keeps `⊤`. -/
theorem top_mul_pos {L : ℝ} (hL : 0 < L) : (⊤ : EReal) * (L : EReal) = ⊤ := EReal.top_mul_coe_of_pos hL

/-- A positive real factor keeps `⊥`. -/
theorem bot_mul_pos {L : ℝ} (hL : 0 < L) : (⊥ : EReal) * (L : EReal) = ⊥ := EReal.bot_mul_coe_of_pos hL

/-- Whatever is subtracted from `⊥` leaves `⊥`. -/
theorem bot_sub' (x : EReal) : (⊥ : EReal) - x = ⊥ := by rw [sub_eq_add_neg, EReal.bot_add]

/-- A positive real factor distributes over a sum. -/
theorem add_mul_pos {L : ℝ} (hL : 0 ≤ L) (x y : EReal) : (x + y) * (L : EReal) = x * L + y * L := by
  rw [mul_comm, EReal.left_distrib_of_nonneg_of_ne_top (by exact_mod_cast hL) (EReal.coe_ne_top L), mul_comm x, mul_comm y]

/-- A positive real factor distributes over a difference. -/
theorem sub_mul_pos {L : ℝ} (hL : 0 ≤ L) (x y : EReal) : (x - y) * (L : EReal) = x * L - y * L := by
  rw [sub_eq_add_neg, sub_eq_add_neg, add_mul_pos hL, EReal.neg_mul]

/-- A nonnegative real factor distributes over a finite sum. -/
theorem sum_mul_pos {ι : Type*} (s : Finset ι) (f : ι → EReal) {L : ℝ} (hL : 0 ≤ L) :
    (∑ k ∈ s, f k) * (L : EReal) = ∑ k ∈ s, f k * L := by
  classical
  induction s using Finset.induction_on with
  | empty => simp
  | insert a s ha ih => rw [Finset.sum_insert ha, Finset.sum_insert ha, add_mul_pos hL, ih]

/-- The exponential is nonnegative. -/
theorem exp_nonneg (x : EReal) : 0 ≤ Ideal.exp x := by
  induction x with
  | bot => exact le_refl _
  | top => exact le_top
  | coe r => exact EReal.coe_nonneg.mpr (Real.exp_pos r).le

/-- `2^(x / ln 2) = e^x`. -/
theorem exp2_mul (x : EReal) : Ideal.exp2 (x * (((Real.log 2)⁻¹ : ℝ) : EReal)) = Ideal.exp x := by
  have h2 : 0 < Real.log 2 := Real.log_pos (by norm_num)
  have hL : (0 : ℝ) < (Real.log 2)⁻¹ := inv_pos.mpr h2
  induction x with
  | bot => rw [bot_mul_pos hL]; rfl
  | top => rw [top_mul_pos hL]; rfl
  | coe r =>
    rw [← EReal.coe_mul]
    show ((Real.rpow 2 (r * (Real.log 2)⁻¹) : ℝ) : EReal) = ((Real.exp r : ℝ) : EReal)
    congr 1
    show (2 : ℝ) ^ (r * (Real.log 2)⁻¹) = Real.exp r
    rw [Real.rpow_def_of_pos (by norm_num)]
    congr 1
    field_simp

/-- Scaling by a positive real commutes with a finite maximum. -/
theorem sup_mul {ι : Type*} (s : Finset ι) (t : ι → EReal) {L : ℝ} (hL : 0 < L) :
    (s.sup fun k => t k * (L : EReal)) = s.sup t * (L : EReal) :=
  (Finset.comp_sup_eq_sup_comp_of_is_total (fun x : EReal => x * (L : EReal))
    (fun _ _ h => mul_le_mul_of_nonneg_right h (by exact_mod_cast hL.le)) (bot_mul_pos hL)).symm

/-! ## The two softmaxes -/

/-- THE EQUATION. Over the keys `s`, with scores `t`, values `v` and value scales `w`: the kernel's arrangement (scores
    scaled by `1/ln 2`, base-two exponentials, the value scale folded into the values, one multiplication by the
    reciprocal of the sum at the end) is the reference's (base-`e` exponentials, each weight multiplied by the
    reciprocal of the sum and by its value scale before the product with the values). It holds for ALL extended reals. -/
theorem softmax_eq {ι : Type*} (s : Finset ι) (t v w : ι → EReal) (T : ι → EReal)
    (hT : ∀ k, T k = t k * (((Real.log 2)⁻¹ : ℝ) : EReal)) :
    (∑ k ∈ s, (v k * w k) * Ideal.exp2 (T k - s.sup T)) * Ideal.div 1 (∑ k ∈ s, Ideal.exp2 (T k - s.sup T))
      = ∑ k ∈ s, v k * ((Ideal.exp (t k - s.sup t) * Ideal.div 1 (∑ k ∈ s, Ideal.exp (t k - s.sup t))) * w k) := by
  have h2 : 0 < Real.log 2 := Real.log_pos (by norm_num)
  have hL : (0 : ℝ) < (Real.log 2)⁻¹ := inv_pos.mpr h2
  obtain rfl : T = fun k => t k * (((Real.log 2)⁻¹ : ℝ) : EReal) := funext hT
  have he : ∀ k, Ideal.exp2 (t k * (((Real.log 2)⁻¹ : ℝ) : EReal) - s.sup fun k => t k * (((Real.log 2)⁻¹ : ℝ) : EReal))
      = Ideal.exp (t k - s.sup t) := fun k => by
    rw [sup_mul s t hL, ← sub_mul_pos hL.le, exp2_mul]
  simp only [he]
  generalize hE : (fun k => Ideal.exp (t k - s.sup t)) = E
  have hE0 : ∀ k, 0 ≤ E k := fun k => by rw [← hE]; exact exp_nonneg _
  have hEk : ∀ k, Ideal.exp (t k - s.sup t) = E k := fun k => by rw [← hE]
  simp only [hEk]
  have hl0 : 0 ≤ ∑ k ∈ s, E k := Finset.sum_nonneg fun k _ => hE0 k
  generalize hl : (∑ k ∈ s, E k) = l at hl0 ⊢
  by_cases hz : l = 0
  · have hk : ∀ k ∈ s, E k = 0 := (Finset.sum_eq_zero_iff_of_nonneg fun k _ => hE0 k).mp (hl.trans hz)
    rw [Finset.sum_eq_zero fun k hks => by rw [hk k hks, mul_zero], zero_mul,
      Finset.sum_eq_zero fun k hks => by rw [hk k hks, zero_mul, zero_mul, mul_zero]]
  · have hd : Ideal.div 1 l = l⁻¹ := by unfold Ideal.div; rw [if_neg hz, one_mul]
    rw [hd]
    have hr : ∃ r : ℝ, 0 ≤ r ∧ l⁻¹ = (r : EReal) := by
      induction l with
      | bot => exact absurd hl0 (by simp)
      | top => exact ⟨0, le_refl _, by simp⟩
      | coe r => exact ⟨r⁻¹, inv_nonneg.mpr (by exact_mod_cast hl0), (EReal.coe_inv r).symm⟩
    obtain ⟨r, hr0, hr⟩ := hr
    rw [hr, sum_mul_pos s _ hr0]
    exact Finset.sum_congr rfl fun k _ => by
      simp only [mul_assoc, mul_comm, mul_left_comm]

/-! ## Sums and maxima cut in rows of 32 -/

/-- A sum over `32 q` keys, taken over each residue modulo 32 first. -/
theorem sum_rows (q : ℕ) (f : ℕ → EReal) :
    (∑ a : Fin 32, ∑ b : Fin q, f (32 * b.val + a.val)) = ∑ k ∈ Finset.range (32 * q), f k := by
  rw [Finset.sum_comm, mul_comm, Finset.sum_range, ← (finProdFinEquiv (m := q) (n := 32)).sum_comp, Fintype.sum_prod_type]
  exact Finset.sum_congr rfl fun b _ => Finset.sum_congr rfl fun a _ => by
    congr 1; simp [finProdFinEquiv]; omega

/-- A maximum over `32 q` keys, taken over each residue modulo 32 first. -/
theorem sup_rows (q : ℕ) (f : ℕ → EReal) :
    ((Finset.univ : Finset (Fin 32)).sup fun a => (Finset.univ : Finset (Fin q)).sup fun b => f (32 * b.val + a.val))
      = (Finset.range (32 * q)).sup f := by
  apply le_antisymm
  · refine Finset.sup_le fun a _ => Finset.sup_le fun b _ => Finset.le_sup (f := f) ?_
    rw [Finset.mem_range]; have := a.isLt; have := b.isLt; omega
  · refine Finset.sup_le fun k hk => ?_
    rw [Finset.mem_range] at hk
    have h := Finset.le_sup (s := (Finset.univ : Finset (Fin q))) (f := fun b : Fin q => f (32 * b.val + k % 32))
      (Finset.mem_univ ⟨k / 32, by omega⟩)
    have h' := Finset.le_sup (s := (Finset.univ : Finset (Fin 32)))
      (f := fun a : Fin 32 => (Finset.univ : Finset (Fin q)).sup fun b => f (32 * b.val + a.val))
      (Finset.mem_univ ⟨k % 32, by omega⟩)
    refine le_trans ?_ (le_trans h h')
    simp only
    rw [Nat.div_add_mod]

/-- A fold of `max` from `⊥` is the maximum of the set. -/
theorem fold_max_eq_sup {ι : Type*} (s : Finset ι) (f : ι → EReal) : s.fold max ⊥ f = s.sup f := rfl

/-! ## Keys past the last one a query sees -/

/-- Scores that are `⊥` from `n` on do not change the maximum. -/
theorem sup_extend {n N : ℕ} (h : n ≤ N) (f : ℕ → EReal) (hf : ∀ k, n ≤ k → f k = ⊥) :
    (Finset.range N).sup f = (Finset.range n).sup f := by
  apply le_antisymm
  · refine Finset.sup_le fun k _ => ?_
    by_cases hk : k < n
    · exact Finset.le_sup (Finset.mem_range.mpr hk)
    · rw [hf k (by omega)]; exact bot_le
  · exact Finset.sup_mono (Finset.range_subset_range.mpr h)

/-- Terms that are zero from `n` on do not change the sum. -/
theorem sum_extend {n N : ℕ} (h : n ≤ N) (f : ℕ → EReal) (hf : ∀ k, n ≤ k → f k = 0) :
    ∑ k ∈ Finset.range N, f k = ∑ k ∈ Finset.range n, f k :=
  (Finset.sum_subset (Finset.range_subset_range.mpr h) fun k _ hk => hf k (by simpa using hk)).symm

end Cert.Attn

end
-- ==== Proof.Cols.lean ====
/- One column of query rows of a block: 128 queries against the `N` keys before the block's diagonal tile and in it.
   Scores `t` (keys by queries) give the base-two softmax numerators and their sum over the keys. -/
module

public import Idealize.ShloMosaic.Lib.Pointwise
public import Idealize.ShloMosaic.Lib.ValueLayout
public import proofs.«01_k».proof.Proof.Math

@[expose] public section

noncomputable section

namespace Cert.Attn

open Idealize.ShloMosaic

/-- Rows 32 at a time: row `a` of group `b` of the cut array is row `32 b + a` of the array. -/
theorem rows32_apply {N q : ℕ} {α : Type} (hN : N = 32 * q) (t : (⟨2, ![N, 128]⟩ : Shape).Idx → α)
    (h : (⟨2, ![N, 128]⟩ : Shape).ShapeCasts ⟨3, ![q, 32, 128]⟩) (b : Fin q) (a : Fin 32) (r : Fin 128) :
    shapeCast ⟨3, ![q, 32, 128]⟩ t h (ix3 b a r) = t (ix2 ⟨32 * b.val + a.val, by have := b.isLt; have := a.isLt; omega⟩ r) := by
  refine shapeCast_apply t h _ _ ?_
  rw [Shape.rowMajor_val_two, Shape.rowMajor_val_three]
  show (32 * b.val + a.val) * 128 + r.val = (b.val * 32 + a.val) * 128 + r.val
  omega

/-- A vector of 128 as one row. -/
theorem row_apply {α : Type} (x : (⟨1, ![128]⟩ : Shape).Idx → α) (h : (⟨1, ![128]⟩ : Shape).ShapeCasts ⟨2, ![1, 128]⟩) (r : Fin 128) :
    shapeCast ⟨2, ![1, 128]⟩ x h (ix2 0 r) = x (ix1 r) := by
  refine shapeCast_apply x h _ _ ?_
  rw [Shape.rowMajor_val_two, Shape.rowMajor_val_one]
  show r.val = 0 * 128 + r.val
  omega

/-- A maximum along the 32 rows, from `-∞`. -/
theorem max32_apply (x : FVec Ideal ⟨2, ![32, 128]⟩ .f32) (h : (⟨2, ![32, 128]⟩ : Shape).Reduces [0] ⟨1, ![128]⟩) (r : Fin 128) :
    multiReduction .maximumf [0] ⟨1, ![128]⟩ x 0xFF800000#32 h (.inl rfl) rfl (ix1 r)
      = (Finset.univ : Finset (Fin 32)).sup fun a => x (ix2 a r) := by
  pointwise
  rfl

/-- A maximum along the groups of 32 rows, from `-∞`. -/
theorem maxGroups_apply {q : ℕ} (x : FVec Ideal ⟨3, ![q, 32, 128]⟩ .f32)
    (h : (⟨3, ![q, 32, 128]⟩ : Shape).Reduces [0] ⟨2, ![32, 128]⟩) (a : Fin 32) (r : Fin 128) :
    multiReduction .maximumf [0] ⟨2, ![32, 128]⟩ x 0xFF800000#32 h (.inl rfl) rfl (ix2 a r)
      = (Finset.univ : Finset (Fin q)).sup fun b => x (ix3 b a r) := by
  pointwise
  rfl

section
variable {N : ℕ} (q : ℕ) (t : FVec Ideal ⟨2, ![N, 128]⟩ .f32)
  (h1 : (⟨2, ![N, 128]⟩ : Shape).ShapeCasts ⟨3, ![q, 32, 128]⟩) (h2 : (⟨3, ![q, 32, 128]⟩ : Shape).Reduces [0] ⟨2, ![32, 128]⟩)
  (h3 : (⟨2, ![32, 128]⟩ : Shape).Reduces [0] ⟨1, ![128]⟩) (h4 : (⟨1, ![128]⟩ : Shape).ShapeCasts ⟨2, ![1, 128]⟩)
  (h5 : (⟨2, ![1, 128]⟩ : Shape).Broadcasts ⟨2, ![N, 128]⟩)

/-- The maximum over the keys, one per query. -/
def colMax : FVec Ideal ⟨2, ![1, 128]⟩ .f32 :=
  shapeCast ⟨2, ![1, 128]⟩ (multiReduction .maximumf [0] ⟨1, ![128]⟩ (multiReduction .maximumf [0] ⟨2, ![32, 128]⟩
    (shapeCast ⟨3, ![q, 32, 128]⟩ t h1) 0xFF800000#32 h2 (.inl rfl) rfl) 0xFF800000#32 h3 (.inl rfl) rfl) h4

/-- The numerators: `2^(score - maximum)`. -/
def colExp : FVec Ideal ⟨2, ![N, 128]⟩ .f32 :=
  exp2 (subf t (broadcastTo ⟨2, ![N, 128]⟩ (colMax q t h1 h2 h3 h4) h5))

/-- The sum over the keys, one per query. -/
def colSum : FVec Ideal ⟨2, ![1, 128]⟩ .f32 :=
  shapeCast ⟨2, ![1, 128]⟩ (multiReduction .add [0] ⟨1, ![128]⟩ (multiReduction .add [0] ⟨2, ![32, 128]⟩
    (shapeCast ⟨3, ![q, 32, 128]⟩ t h1) 0x00000000#32 h2 (.inl rfl) rfl) 0x00000000#32 h3 (.inl rfl) rfl) h4

variable (hN : N = 32 * q) (T : ℕ → Fin 128 → EReal) (ht : ∀ (k : Fin N) (r : Fin 128), t (ix2 k r) = T k.val r)

include hN ht in
/-- The column's maximum is the maximum over all its keys. -/
theorem colMax_apply (r : Fin 128) : colMax q t h1 h2 h3 h4 (ix2 0 r) = (Finset.range (32 * q)).sup fun k => T k r := by
  unfold colMax
  rw [row_apply, max32_apply, ← sup_rows]
  refine Finset.sup_congr rfl fun a _ => (maxGroups_apply _ h2 a r).trans (Finset.sup_congr rfl fun b _ => ?_)
  rw [rows32_apply hN, ht]

include hN ht in
/-- The column's sum is the sum over all its keys. -/
theorem colSum_apply (r : Fin 128) : colSum q t h1 h2 h3 h4 (ix2 0 r) = ∑ k ∈ Finset.range (32 * q), T k r := by
  unfold colSum
  rw [row_apply]
  pointwise [rows32_apply hN, ht]
  rw [← sum_rows]

include hN ht in
/-- A numerator at a key and a query. -/
theorem colExp_apply (k : Fin N) (r : Fin 128) :
    colExp q t h1 h2 h3 h4 h5 (ix2 k r) = Ideal.exp2 (T k.val r - (Finset.range (32 * q)).sup fun k => T k r) := by
  unfold colExp
  pointwise [colMax_apply q t h1 h2 h3 h4 hN T ht, ht]
  rfl

end

/-- The column's scores: the rows before the diagonal tile as they are, the 128 rows of the tile bounded by `lim`. -/
def colMask {N M : ℕ} (s : FVec Ideal ⟨2, ![N, 128]⟩ .f32) (lim : FVec Ideal ⟨2, ![128, 128]⟩ .f32)
    (h1 : (⟨2, ![N, 128]⟩ : Shape).Slices ![0, 0] ⟨2, ![M, 128]⟩) (h2 : (⟨2, ![N, 128]⟩ : Shape).Slices ![M, 0] ⟨2, ![128, 128]⟩)
    (h3 : Shape.Concatenates [⟨2, ![M, 128]⟩, ⟨2, ![128, 128]⟩] ⟨2, ![N, 128]⟩ 0) : FVec Ideal ⟨2, ![N, 128]⟩ .f32 :=
  concatenate ⟨2, ![N, 128]⟩ 0 [⟨⟨2, ![M, 128]⟩, extractStridedSlice ⟨2, ![M, 128]⟩ ![0, 0] s h1⟩,
    ⟨⟨2, ![128, 128]⟩, minimumf (extractStridedSlice ⟨2, ![128, 128]⟩ ![M, 0] s h2) lim⟩] h3

/-- A bounded score: as it is before the diagonal tile and where the tile's bound is `+∞`, otherwise `-∞`. -/
theorem colMask_apply {N M : ℕ} (s : FVec Ideal ⟨2, ![N, 128]⟩ .f32) (lim : FVec Ideal ⟨2, ![128, 128]⟩ .f32)
    (h1 : (⟨2, ![N, 128]⟩ : Shape).Slices ![0, 0] ⟨2, ![M, 128]⟩) (h2 : (⟨2, ![N, 128]⟩ : Shape).Slices ![M, 0] ⟨2, ![128, 128]⟩)
    (h3 : Shape.Concatenates [⟨2, ![M, 128]⟩, ⟨2, ![128, 128]⟩] ⟨2, ![N, 128]⟩ 0)
    (hlim : ∀ k r : Fin 128, lim (ix2 k r) = if k.val ≤ r.val then ⊤ else ⊥) (k : Fin N) (r : Fin 128) :
    colMask s lim h1 h2 h3 (ix2 k r) = if k.val ≤ M + r.val then s (ix2 k r) else ⊥ := by
  unfold colMask
  pointwise [hlim]
  by_cases hM : k.val < M
  · rw [dif_pos hM, if_pos (by omega)]
    refine congrArg s (funext fun a => Fin.ext ?_)
    match a with
    | ⟨0, _⟩ => exact Nat.zero_add _
    | ⟨1, _⟩ => exact Nat.zero_add _
  · rw [dif_neg hM]
    have hs : ∀ h, s (Shape.Idx.norm fun a => ⟨![M, 0] a + ((ix2 (⟨k.val - M, h⟩ : Fin 128) r : (⟨2, ![128, 128]⟩ : Shape).Idx) a).val, by
        have h22 := h2.2; exact lt_of_lt_of_le (Nat.add_lt_add_left (Fin.isLt _) _) (h22 a)⟩) = s (ix2 k r) := fun h => by
      refine congrArg s (funext fun a => Fin.ext ?_)
      match a with
      | ⟨0, _⟩ => show M + (k.val - M) = k.val; omega
      | ⟨1, _⟩ => exact Nat.zero_add _
    rw [hs]
    by_cases hk : k.val ≤ M + r.val
    · rw [if_pos (by omega), if_pos hk, min_eq_left le_top]
    · rw [if_neg (by omega), if_neg hk, min_eq_right bot_le]

/-! ## The block's output -/

section
variable {K N : ℕ} (e0 : FVec Ideal ⟨2, ![N, 128]⟩ .f32) (e1 : FVec Ideal ⟨2, ![K, 128]⟩ .f32)
  (l0 l1 : FVec Ideal ⟨2, ![1, 128]⟩ .f32) (vt : FVec Ideal ⟨2, ![128, K]⟩ .bf16) (hb : FTy.bits .bf16 < FTy.bits .f32)
  (d : DotDims ⟨2, ![128, K]⟩ ⟨2, ![K, 256]⟩ ⟨2, ![128, 256]⟩)
  (h1 : Shape.Concatenates [⟨2, ![N, 128]⟩, ⟨2, ![128, 128]⟩] ⟨2, ![K, 128]⟩ 0)
  (h2 : Shape.Concatenates [⟨2, ![K, 128]⟩, ⟨2, ![K, 128]⟩] ⟨2, ![K, 256]⟩ 1)
  (h3 : Shape.Concatenates [⟨2, ![1, 128]⟩, ⟨2, ![1, 128]⟩] ⟨2, ![1, 256]⟩ 1)
  (h4 : (⟨2, ![1, 256]⟩ : Shape).Broadcasts ⟨2, ![128, 256]⟩) (h5 : (⟨2, ![128, 256]⟩ : Shape).Transposes [1, 0] ⟨2, ![256, 128]⟩)
  (h6 : (⟨2, ![256, 128]⟩ : Shape).ShapeCasts ⟨3, ![1, 256, 128]⟩)

/-- The two columns' numerators side by side; the first column's are zero on the last 128 keys, which it does not see. -/
def blkP : FVec Ideal ⟨2, ![K, 256]⟩ .bf16 :=
  concatenate ⟨2, ![K, 256]⟩ 1
    [⟨⟨2, ![K, 128]⟩, concatenate ⟨2, ![K, 128]⟩ 0 [⟨⟨2, ![N, 128]⟩, truncf .bf16 e0 hb⟩,
        ⟨⟨2, ![128, 128]⟩, broadcast ⟨2, ![128, 128]⟩ (Scalar.ofBits .bf16 0x0000#16 : Ideal .bf16)⟩] h1⟩,
      ⟨⟨2, ![K, 128]⟩, truncf .bf16 e1 hb⟩] h2

/-- The block's output: the values against the numerators, times the reciprocals of the sums, queries by lanes. -/
def blkOut : FVec Ideal ⟨3, ![1, 256, 128]⟩ .bf16 :=
  shapeCast ⟨3, ![1, 256, 128]⟩ (truncf .bf16 (transpose ⟨2, ![256, 128]⟩ [1, 0]
    (mulf (matmul d none vt (blkP e0 e1 hb h1 h2) (constant ⟨2, ![128, 256]⟩ .f32 0x00000000#32))
      (broadcastTo ⟨2, ![128, 256]⟩ (divf (broadcast ⟨2, ![1, 256]⟩ (Scalar.ofBits .f32 0x3F800000#32 : Ideal .f32))
        (concatenate ⟨2, ![1, 256]⟩ 1 [⟨⟨2, ![1, 128]⟩, l0⟩, ⟨⟨2, ![1, 128]⟩, l1⟩] h3)) h4)) h5) hb) h6

variable (hd : ∀ (a : FVec Ideal ⟨2, ![128, K]⟩ .bf16) (b : FVec Ideal ⟨2, ![K, 256]⟩ .bf16) (i : Fin 128) (j : Fin 256),
    matmul d none a b (constant ⟨2, ![128, 256]⟩ .f32 0x00000000#32) (ix2 i j) = ∑ k : Fin K, a (ix2 i k) * b (ix2 k j))

include hd in
/-- The block's first 128 queries, weighted over the keys their column visits. -/
theorem blkOut_apply0 (r c : Fin 128) :
    blkOut e0 e1 l0 l1 vt hb d h1 h2 h3 h4 h5 h6 (ix3 0 ⟨r.val, by omega⟩ c)
      = (∑ k : Fin K, vt (ix2 c k) * (if h : k.val < N then e0 (ix2 ⟨k.val, h⟩ r) else 0)) * Ideal.div 1 (l0 (ix2 0 r)) := by
  unfold blkOut
  rw [shapeCast_apply _ h6 _ (ix2 ⟨r.val, by omega⟩ c) (by
    rw [Shape.rowMajor_val_two, Shape.rowMajor_val_three]; show r.val * 128 + c.val = (0 * 256 + r.val) * 128 + c.val; omega)]
  pointwise [blkP]
  refine congrArg (· * _) ((hd _ _ _ _).trans (Finset.sum_congr rfl fun k _ => congrArg (_ * ·) ?_))
  pointwise
  by_cases hk : k.val < N
  · rw [dif_pos hk]
    refine (dif_pos hk).trans (congrArg e0 (funext fun a => Fin.ext ?_))
    match a with
    | ⟨0, _⟩ => rfl
    | ⟨1, _⟩ => rfl
  · rw [dif_neg hk]
    exact dif_neg hk

include hd in
/-- The block's last 128 queries, weighted over all the block's keys. -/
theorem blkOut_apply1 (r c : Fin 128) :
    blkOut e0 e1 l0 l1 vt hb d h1 h2 h3 h4 h5 h6 (ix3 0 ⟨128 + r.val, by omega⟩ c)
      = (∑ k : Fin K, vt (ix2 c k) * e1 (ix2 k r)) * Ideal.div 1 (l1 (ix2 0 r)) := by
  unfold blkOut
  rw [shapeCast_apply _ h6 _ (ix2 ⟨128 + r.val, by omega⟩ c) (by
    rw [Shape.rowMajor_val_two, Shape.rowMajor_val_three]
    show (128 + r.val) * 128 + c.val = (0 * 256 + (128 + r.val)) * 128 + c.val; omega)]
  pointwise [blkP]
  refine congrArg (· * _) ((hd _ _ _ _).trans (Finset.sum_congr rfl fun k _ => congrArg (_ * ·) ?_))
  pointwise
  refine congrArg e1 (funext fun a => Fin.ext ?_)
  match a with
  | ⟨0, _⟩ => rfl
  | ⟨1, _⟩ => rfl

end

end Cert.Attn

end
-- ==== Proof.Block.lean ====
/- What one block of 256 query rows of one head stores: two columns of 128 queries, each against the keys up to its
   diagonal tile. `blk_apply` reads the stored block: at every query and lane it is the attention over all 1024 keys,
   the keys after the query at score `-∞`. -/
module

public import proofs.«01_k».proof.Proof.Cols

@[expose] public section

noncomputable section

namespace Cert.Attn

open Idealize.ShloMosaic

/-! ## Attention over the keys -/

/-- Attention with base-two exponentials over the first `n` keys: scores `T`, values `V`. -/
def attn2 (n : ℕ) (T V : ℕ → EReal) : EReal :=
  (∑ k ∈ Finset.range n, V k * Ideal.exp2 (T k - (Finset.range n).sup T))
    * Ideal.div 1 (∑ k ∈ Finset.range n, Ideal.exp2 (T k - (Finset.range n).sup T))

/-- Keys at score `-∞` do not matter. -/
theorem attn2_extend {n N : ℕ} (h : n ≤ N) (T V : ℕ → EReal) (hT : ∀ k, n ≤ k → T k = ⊥) : attn2 N T V = attn2 n T V := by
  unfold attn2
  have hz : ∀ (x : EReal) k, n ≤ k → Ideal.exp2 (T k - x) = 0 := fun x k hk => by rw [hT k hk, bot_sub']; rfl
  rw [sup_extend h T hT, sum_extend h _ (hz _), sum_extend h _ fun k hk => by rw [hz _ k hk, mul_zero]]

/-! ## The block's shapes -/

/-- What the block's layout operations need: `K` keys in sight of the second column, `N` of the first, `M` of them before
    the first column's diagonal tile. -/
structure Shapes (K N M q0 q1 : ℕ) : Prop where
  cast0 : (⟨2, ![N, 128]⟩ : Shape).ShapeCasts ⟨3, ![q0, 32, 128]⟩
  cast1 : (⟨2, ![K, 128]⟩ : Shape).ShapeCasts ⟨3, ![q1, 32, 128]⟩
  red0 : (⟨3, ![q0, 32, 128]⟩ : Shape).Reduces [0] ⟨2, ![32, 128]⟩
  red1 : (⟨3, ![q1, 32, 128]⟩ : Shape).Reduces [0] ⟨2, ![32, 128]⟩
  red : (⟨2, ![32, 128]⟩ : Shape).Reduces [0] ⟨1, ![128]⟩
  row : (⟨1, ![128]⟩ : Shape).ShapeCasts ⟨2, ![1, 128]⟩
  bc0 : (⟨2, ![1, 128]⟩ : Shape).Broadcasts ⟨2, ![N, 128]⟩
  bc1 : (⟨2, ![1, 128]⟩ : Shape).Broadcasts ⟨2, ![K, 128]⟩
  cat0 : Shape.Concatenates [⟨2, ![N, 128]⟩, ⟨2, ![128, 128]⟩] ⟨2, ![K, 128]⟩ 0
  cat1 : Shape.Concatenates [⟨2, ![K, 128]⟩, ⟨2, ![K, 128]⟩] ⟨2, ![K, 256]⟩ 1
  cat2 : Shape.Concatenates [⟨2, ![1, 128]⟩, ⟨2, ![1, 128]⟩] ⟨2, ![1, 256]⟩ 1
  bc2 : (⟨2, ![1, 256]⟩ : Shape).Broadcasts ⟨2, ![128, 256]⟩
  tr : (⟨2, ![128, 256]⟩ : Shape).Transposes [1, 0] ⟨2, ![256, 128]⟩
  out : (⟨2, ![256, 128]⟩ : Shape).ShapeCasts ⟨3, ![1, 256, 128]⟩
  bits : FTy.bits .bf16 < FTy.bits .f32
  castq : (⟨3, ![1, 256, 128]⟩ : Shape).ShapeCasts ⟨2, ![256, 128]⟩
  castk : (⟨3, ![1, K, 128]⟩ : Shape).ShapeCasts ⟨2, ![K, 128]⟩
  sl0 : (⟨2, ![K, 256]⟩ : Shape).Slices ![0, 0] ⟨2, ![N, 128]⟩
  sl1 : (⟨2, ![K, 256]⟩ : Shape).Slices ![0, 128] ⟨2, ![K, 128]⟩
  mk0 : (⟨2, ![K, 128]⟩ : Shape).Slices ![0, 0] ⟨2, ![N, 128]⟩
  mk1 : (⟨2, ![K, 128]⟩ : Shape).Slices ![N, 0] ⟨2, ![128, 128]⟩
  hN : N = 32 * q0
  hK : K = 32 * q1
  hMN : N = M + 128
  hNK : K = N + 128
  hK' : K ≤ 1024

/-- The first column's own diagonal tile, where keys come before it. -/
structure Shapes' (N M : ℕ) : Prop where
  sl0 : (⟨2, ![N, 128]⟩ : Shape).Slices ![0, 0] ⟨2, ![M, 128]⟩
  sl1 : (⟨2, ![N, 128]⟩ : Shape).Slices ![M, 0] ⟨2, ![128, 128]⟩
  cat : Shape.Concatenates [⟨2, ![M, 128]⟩, ⟨2, ![128, 128]⟩] ⟨2, ![N, 128]⟩ 0

section
variable {K N M q0 q1 : ℕ} (f : Shapes K N M q0 q1)
  (d1 : DotDims ⟨2, ![K, 128]⟩ ⟨2, ![256, 128]⟩ ⟨2, ![K, 256]⟩) (d2 : DotDims ⟨2, ![128, K]⟩ ⟨2, ![K, 256]⟩ ⟨2, ![128, 256]⟩)
  (vq : FVec Ideal ⟨3, ![1, 256, 128]⟩ .fp8e4m3) (vk : FVec Ideal ⟨3, ![1, K, 128]⟩ .fp8e4m3)
  (km0 : FVec Ideal ⟨2, ![N, 128]⟩ .f32) (km1 : FVec Ideal ⟨2, ![K, 128]⟩ .f32) (lim : FVec Ideal ⟨2, ![128, 128]⟩ .f32)
  (vt : FVec Ideal ⟨2, ![128, K]⟩ .bf16)

/-! ## The block from its two columns' scores -/

/-- The block's output from its columns' bounded scores. -/
def blkOf (t0 : FVec Ideal ⟨2, ![N, 128]⟩ .f32) (t1 : FVec Ideal ⟨2, ![K, 128]⟩ .f32) : FVec Ideal ⟨3, ![1, 256, 128]⟩ .bf16 :=
  blkOut (colExp q0 t0 f.cast0 f.red0 f.red f.row f.bc0) (colExp q1 t1 f.cast1 f.red1 f.red f.row f.bc1)
    (colSum q0 (colExp q0 t0 f.cast0 f.red0 f.red f.row f.bc0) f.cast0 f.red0 f.red f.row)
    (colSum q1 (colExp q1 t1 f.cast1 f.red1 f.red f.row f.bc1) f.cast1 f.red1 f.red f.row)
    vt f.bits d2 f.cat0 f.cat1 f.cat2 f.bc2 f.tr f.out

/-- The dot product of values and numerators, read at an index. -/
def IsPV : Prop := ∀ (a : FVec Ideal ⟨2, ![128, K]⟩ .bf16) (b : FVec Ideal ⟨2, ![K, 256]⟩ .bf16) (i : Fin 128) (j : Fin 256),
  matmul d2 none a b (constant ⟨2, ![128, 256]⟩ .f32 0x00000000#32) (ix2 i j) = ∑ k : Fin K, a (ix2 i k) * b (ix2 k j)

/-- The dot product of keys and queries, read at an index. -/
def IsQK : Prop := ∀ (a : FVec Ideal ⟨2, ![K, 128]⟩ .fp8e4m3) (b : FVec Ideal ⟨2, ![256, 128]⟩ .fp8e4m3) (i : Fin K) (j : Fin 256),
  matmul d1 none a b (constant ⟨2, ![K, 256]⟩ .f32 0x00000000#32) (ix2 i j) = ∑ c : Fin 128, a (ix2 i c) * b (ix2 j c)

/-- The stored block is the attention over the keys, given the columns' scores `T`, which are `-∞` for the keys after the
    query. -/
theorem blkOf_apply (hd2 : IsPV d2) (T : ℕ → ℕ → EReal) (V : ℕ → EReal) (c : Fin 128)
    (hV : ∀ k : Fin K, vt (ix2 c k) = V k.val)
    (t0 : FVec Ideal ⟨2, ![N, 128]⟩ .f32) (t1 : FVec Ideal ⟨2, ![K, 128]⟩ .f32)
    (h0 : ∀ (k : Fin N) (r : Fin 128), t0 (ix2 k r) = T k.val r.val)
    (h1 : ∀ (k : Fin K) (r : Fin 128), t1 (ix2 k r) = T k.val (128 + r.val))
    (hT : ∀ k r, M + r < k → T k r = ⊥) (r : Fin 256) :
    blkOf f d2 vt t0 t1 (ix3 0 r c) = attn2 1024 (fun k => T k r.val) V := by
  have hN := f.hN; have hK := f.hK; have hMN := f.hMN; have hNK := f.hNK; have hK' := f.hK'
  unfold blkOf
  by_cases hr : r.val < 128
  · rw [attn2_extend (n := N) (by omega) _ _ fun k hk => hT k _ (by omega)]
    have hrr : r = ⟨(⟨r.val, hr⟩ : Fin 128).val, by omega⟩ := rfl
    rw [hrr, blkOut_apply0 _ _ _ _ _ _ _ _ _ _ _ _ _ hd2,
      colSum_apply q0 _ _ _ _ _ f.hN (fun k r => Ideal.exp2 (T k r.val - (Finset.range (32 * q0)).sup fun k => T k r.val))
        fun k r => colExp_apply q0 t0 _ _ _ _ _ f.hN (fun k r => T k r.val) h0 k r]
    unfold attn2
    rw [← hN]
    congr 1
    have hs := sum_extend (n := N) (N := K) (by omega)
      (fun k => V k * (if k < N then Ideal.exp2 (T k r.val - (Finset.range N).sup fun k => T k r.val) else 0))
      fun k hk => by rw [if_neg (by omega), mul_zero]
    rw [Finset.sum_range] at hs
    refine Eq.trans (Finset.sum_congr rfl fun k _ => ?_) (hs.trans (Finset.sum_congr rfl fun k hk => ?_))
    · rw [hV]
      by_cases hk : k.val < N
      · rw [dif_pos hk, if_pos hk, colExp_apply q0 t0 _ _ _ _ _ f.hN (fun k r => T k r.val) h0, ← hN]
      · rw [dif_neg hk, if_neg hk]
    · rw [if_pos (Finset.mem_range.mp hk)]
  · have hr1 : r.val - 128 < 128 := by have := r.isLt; omega
    rw [attn2_extend (n := K) (by omega) _ _ fun k hk => hT k _ (by have := r.isLt; omega)]
    have hrr : r = ⟨128 + (⟨r.val - 128, hr1⟩ : Fin 128).val, by have := r.isLt; simp only; omega⟩ := Fin.ext (by simp only; omega)
    have hrv : 128 + (r.val - 128) = r.val := by omega
    rw [hrr, blkOut_apply1 _ _ _ _ _ _ _ _ _ _ _ _ _ hd2,
      colSum_apply q1 _ _ _ _ _ f.hK
        (fun k r => Ideal.exp2 (T k (128 + r.val) - (Finset.range (32 * q1)).sup fun k => T k (128 + r.val)))
        fun k r => colExp_apply q1 t1 _ _ _ _ _ f.hK (fun k r => T k (128 + r.val)) h1 k r]
    unfold attn2
    rw [← hK]
    refine congrArg (· * _) (Eq.trans (Finset.sum_congr rfl fun k _ => ?_) (Finset.sum_range _).symm)
    rw [hV, colExp_apply q1 t1 _ _ _ _ _ f.hK (fun k r => T k (128 + r.val)) h1, ← hK]

/-! ## The block from its loads -/

/-- Keys against queries. -/
def raw : FVec Ideal ⟨2, ![K, 256]⟩ .f32 :=
  matmul d1 none (shapeCast ⟨2, ![K, 128]⟩ vk f.castk) (shapeCast ⟨2, ![256, 128]⟩ vq f.castq) (constant ⟨2, ![K, 256]⟩ .f32 0x00000000#32)

/-- The first column's scores, scaled. -/
def score0 : FVec Ideal ⟨2, ![N, 128]⟩ .f32 := mulf (extractStridedSlice ⟨2, ![N, 128]⟩ ![0, 0] (raw f d1 vq vk) f.sl0) km0

/-- The second column's scores, scaled. -/
def score1 : FVec Ideal ⟨2, ![K, 128]⟩ .f32 := mulf (extractStridedSlice ⟨2, ![K, 128]⟩ ![0, 128] (raw f d1 vq vk) f.sl1) km1

/-- The second column's scores, bounded on its diagonal tile. -/
def masked1 : FVec Ideal ⟨2, ![K, 128]⟩ .f32 := colMask (score1 f d1 vq vk km1) lim f.mk0 f.mk1 f.cat0

/-- A block that has keys before its first diagonal tile. -/
def blk (f' : Shapes' N M) : FVec Ideal ⟨3, ![1, 256, 128]⟩ .bf16 :=
  blkOf f d2 vt (colMask (score0 f d1 vq vk km0) lim f'.sl0 f'.sl1 f'.cat) (masked1 f d1 vq vk km1 lim)

end

/-- The first block, whose first column is its diagonal tile alone. -/
def blkFirst {K q0 q1 : ℕ} (f : Shapes K 128 0 q0 q1)
    (d1 : DotDims ⟨2, ![K, 128]⟩ ⟨2, ![256, 128]⟩ ⟨2, ![K, 256]⟩) (d2 : DotDims ⟨2, ![128, K]⟩ ⟨2, ![K, 256]⟩ ⟨2, ![128, 256]⟩)
    (vq : FVec Ideal ⟨3, ![1, 256, 128]⟩ .fp8e4m3) (vk : FVec Ideal ⟨3, ![1, K, 128]⟩ .fp8e4m3)
    (km0 : FVec Ideal ⟨2, ![128, 128]⟩ .f32) (km1 : FVec Ideal ⟨2, ![K, 128]⟩ .f32) (lim : FVec Ideal ⟨2, ![128, 128]⟩ .f32)
    (vt : FVec Ideal ⟨2, ![128, K]⟩ .bf16) : FVec Ideal ⟨3, ![1, 256, 128]⟩ .bf16 :=
  blkOf f d2 vt (minimumf (score0 f d1 vq vk km0) lim) (masked1 f d1 vq vk km1 lim)

/-! ## Its value -/

/-- The score of key `k` at query `r` of a block with `M` keys before it. -/
def sc (M : ℕ) (Kv : ℕ → Fin 128 → EReal) (Q : ℕ → Fin 128 → EReal) (Km : ℕ → EReal) (k r : ℕ) : EReal :=
  if k ≤ M + r then (∑ c : Fin 128, Kv k c * Q r c) * Km k else ⊥

section
variable {K N M q0 q1 : ℕ} (f : Shapes K N M q0 q1)
  (d1 : DotDims ⟨2, ![K, 128]⟩ ⟨2, ![256, 128]⟩ ⟨2, ![K, 256]⟩) (d2 : DotDims ⟨2, ![128, K]⟩ ⟨2, ![K, 256]⟩ ⟨2, ![128, 256]⟩)
  (vq : FVec Ideal ⟨3, ![1, 256, 128]⟩ .fp8e4m3) (vk : FVec Ideal ⟨3, ![1, K, 128]⟩ .fp8e4m3)
  (km0 : FVec Ideal ⟨2, ![N, 128]⟩ .f32) (km1 : FVec Ideal ⟨2, ![K, 128]⟩ .f32) (lim : FVec Ideal ⟨2, ![128, 128]⟩ .f32)
  (vt : FVec Ideal ⟨2, ![128, K]⟩ .bf16)
  (hd1 : IsQK d1) (hd2 : IsPV d2)
  (Kv Q : ℕ → Fin 128 → EReal) (Km : ℕ → EReal) (V : ℕ → EReal) (c : Fin 128)
  (hlim : ∀ k r : Fin 128, lim (ix2 k r) = if k.val ≤ r.val then ⊤ else ⊥)
  (hq : ∀ (r : Fin 256) (e : Fin 128), vq (ix3 0 r e) = Q r.val e)
  (hk : ∀ (k : Fin K) (e : Fin 128), vk (ix3 0 k e) = Kv k.val e)
  (hkm0 : ∀ (k : Fin N) (r : Fin 128), km0 (ix2 k r) = Km k.val)
  (hkm1 : ∀ (k : Fin K) (r : Fin 128), km1 (ix2 k r) = Km k.val)
  (hV : ∀ k : Fin K, vt (ix2 c k) = V k.val)

include hd1 hq hk in
/-- A product of a key with a query. -/
theorem raw_apply (k : Fin K) (r : Fin 256) : raw f d1 vq vk (ix2 k r) = ∑ e : Fin 128, Kv k.val e * Q r.val e := by
  unfold raw
  rw [hd1]
  refine Finset.sum_congr rfl fun e _ => ?_
  congr 1
  · refine (shapeCast_apply vk f.castk _ (ix3 0 k e) ?_).trans (hk k e)
    rw [Shape.rowMajor_val_two, Shape.rowMajor_val_three]; show (0 * K + k.val) * 128 + e.val = k.val * 128 + e.val; omega
  · refine (shapeCast_apply vq f.castq _ (ix3 0 r e) ?_).trans (hq r e)
    rw [Shape.rowMajor_val_two, Shape.rowMajor_val_three]; show (0 * 256 + r.val) * 128 + e.val = r.val * 128 + e.val; omega

include hd1 hq hk hkm0 in
/-- The first column's scores, before the mask. -/
theorem score0_apply (k : Fin N) (r : Fin 128) :
    score0 f d1 vq vk km0 (ix2 k r) = (∑ e : Fin 128, Kv k.val e * Q r.val e) * Km k.val := by
  have hNK := f.hNK
  unfold score0
  show _ * _ = _
  rw [hkm0]
  refine congrArg (· * _) ((extractStridedSlice_apply _ _ f.sl0 _ (ix2 ⟨k.val, by have := k.isLt; omega⟩ ⟨r.val, by have := r.isLt; omega⟩) ?_).trans
    (raw_apply f d1 vq vk hd1 Kv Q hq hk _ _))
  intro a
  match a with
  | ⟨0, _⟩ => exact (Nat.zero_add _).symm
  | ⟨1, _⟩ => exact (Nat.zero_add _).symm

include hd1 hq hk hkm1 in
/-- The second column's scores, before the mask. -/
theorem score1_apply (k : Fin K) (r : Fin 128) :
    score1 f d1 vq vk km1 (ix2 k r) = (∑ e : Fin 128, Kv k.val e * Q (128 + r.val) e) * Km k.val := by
  unfold score1
  show _ * _ = _
  rw [hkm1]
  refine congrArg (· * _) ((extractStridedSlice_apply _ _ f.sl1 _ (ix2 k ⟨128 + r.val, by have := r.isLt; omega⟩) ?_).trans
    (raw_apply f d1 vq vk hd1 Kv Q hq hk _ _))
  intro a
  match a with
  | ⟨0, _⟩ => exact (Nat.zero_add _).symm
  | ⟨1, _⟩ => rfl

include hd1 hq hk hkm1 hlim in
/-- The second column's masked scores. -/
theorem masked1_apply (k : Fin K) (r : Fin 128) : masked1 f d1 vq vk km1 lim (ix2 k r) = sc M Kv Q Km k.val (128 + r.val) := by
  have hMN := f.hMN
  unfold masked1
  rw [colMask_apply _ _ _ _ _ hlim, score1_apply f d1 vq vk km1 hd1 Kv Q Km hq hk hkm1]
  unfold sc
  exact if_congr (by omega) rfl rfl

include hd1 hd2 hq hk hkm0 hkm1 hlim hV in
/-- A later block's stored value. -/
theorem blk_apply (f' : Shapes' N M) (r : Fin 256) :
    blk f d1 d2 vq vk km0 km1 lim vt f' (ix3 0 r c) = attn2 1024 (fun k => sc M Kv Q Km k r.val) V := by
  unfold blk
  refine blkOf_apply f d2 vt hd2 (fun k r => sc M Kv Q Km k r) V c hV _ _ (fun k r => ?_)
    (fun k r => masked1_apply f d1 vq vk km1 lim hd1 Kv Q Km hlim hq hk hkm1 k r) (fun k r h => if_neg (by omega)) r
  rw [colMask_apply _ _ _ _ _ hlim, score0_apply f d1 vq vk km0 hd1 Kv Q Km hq hk hkm0]
  rfl

end

/-- The first block's stored value. -/
theorem blkFirst_apply {K q0 q1 : ℕ} (f : Shapes K 128 0 q0 q1)
    (d1 : DotDims ⟨2, ![K, 128]⟩ ⟨2, ![256, 128]⟩ ⟨2, ![K, 256]⟩) (d2 : DotDims ⟨2, ![128, K]⟩ ⟨2, ![K, 256]⟩ ⟨2, ![128, 256]⟩)
    (vq : FVec Ideal ⟨3, ![1, 256, 128]⟩ .fp8e4m3) (vk : FVec Ideal ⟨3, ![1, K, 128]⟩ .fp8e4m3)
    (km0 : FVec Ideal ⟨2, ![128, 128]⟩ .f32) (km1 : FVec Ideal ⟨2, ![K, 128]⟩ .f32) (lim : FVec Ideal ⟨2, ![128, 128]⟩ .f32)
    (vt : FVec Ideal ⟨2, ![128, K]⟩ .bf16) (hd1 : IsQK d1) (hd2 : IsPV d2)
    (Kv Q : ℕ → Fin 128 → EReal) (Km : ℕ → EReal) (V : ℕ → EReal) (c : Fin 128)
    (hlim : ∀ k r : Fin 128, lim (ix2 k r) = if k.val ≤ r.val then ⊤ else ⊥)
    (hq : ∀ (r : Fin 256) (e : Fin 128), vq (ix3 0 r e) = Q r.val e)
    (hk : ∀ (k : Fin K) (e : Fin 128), vk (ix3 0 k e) = Kv k.val e)
    (hkm0 : ∀ (k : Fin 128) (r : Fin 128), km0 (ix2 k r) = Km k.val)
    (hkm1 : ∀ (k : Fin K) (r : Fin 128), km1 (ix2 k r) = Km k.val)
    (hV : ∀ k : Fin K, vt (ix2 c k) = V k.val) (r : Fin 256) :
    blkFirst f d1 d2 vq vk km0 km1 lim vt (ix3 0 r c) = attn2 1024 (fun k => sc 0 Kv Q Km k r.val) V := by
  unfold blkFirst
  refine blkOf_apply f d2 vt hd2 (fun k r => sc 0 Kv Q Km k r) V c hV _ _ (fun k r => ?_)
    (fun k r => masked1_apply f d1 vq vk km1 lim hd1 Kv Q Km hlim hq hk hkm1 k r) (fun k r h => if_neg (by omega)) r
  show min (score0 f d1 vq vk km0 (ix2 k r)) (lim (ix2 k r)) = _
  rw [hlim, score0_apply f d1 vq vk km0 hd1 Kv Q Km hq hk hkm0]
  unfold sc
  by_cases h : k.val ≤ r.val
  · rw [if_pos h, if_pos (by omega), min_eq_left le_top]
  · rw [if_neg h, if_neg (by omega), min_eq_right bot_le]

end Cert.Attn

end
-- ==== Proof.Pieces.lean ====
/- The kernel's 24 stores of one grid point, as 24 instances of the one block of `Block.lean`: six heads, four blocks of 256
   query rows each. -/
module

public import proofs.«01_k».proof.Proof.Gen.KernelIdeal.Frame
public import proofs.«01_k».proof.Proof.Block

@[expose] public section

noncomputable section

namespace Cert.KernelIdeal.Hand

open Cert.KernelIdeal Cert.KernelIdeal.Gen Idealize.ShloMosaic Idealize.ShloMosaic.TcCoe Idealize.ShloMosaic.Tactic Cert.Attn

/-! ## The four blocks' shapes -/

/-- The shapes of the first block fit together. -/
theorem shapes0 : Shapes 256 128 0 4 8 := by constructor <;> first | assumption | decide
/-- Of the second. -/
theorem shapes1 : Shapes 512 384 256 12 16 := by constructor <;> first | assumption | decide
/-- Of the third. -/
theorem shapes2 : Shapes 768 640 512 20 24 := by constructor <;> first | assumption | decide
/-- Of the last. -/
theorem shapes3 : Shapes 1024 896 768 28 32 := by constructor <;> first | assumption | decide
/-- The zero rows the second block appends fit. -/
theorem shapes1' : Shapes' 384 256 := by constructor <;> decide
/-- The zero rows the third block appends fit. -/
theorem shapes2' : Shapes' 640 512 := by constructor <;> decide
/-- The zero rows the last block appends fit. -/
theorem shapes3' : Shapes' 896 768 := by constructor <;> decide

/-- The first block's scores are products of keys with queries, summed over the lanes. -/
theorem qk0 : IsQK (K := 256) dot_S256x128_S256x128_S256x256_1_1_0_0_n_n := fun a b i j => by pointwise
/-- The second block's. -/
theorem qk1 : IsQK (K := 512) dot_S512x128_S256x128_S512x256_1_1_0_0_n_n := fun a b i j => by pointwise
/-- The third block's. -/
theorem qk2 : IsQK (K := 768) dot_S768x128_S256x128_S768x256_1_1_0_0_n_n := fun a b i j => by pointwise
/-- The last block's. -/
theorem qk3 : IsQK (K := 1024) dot_S1024x128_S256x128_S1024x256_1_1_0_0_n_n := fun a b i j => by pointwise
/-- The first block's outputs are products of values with weights, summed over the keys. -/
theorem pv0 : IsPV (K := 256) dot_S128x256_S256x256_S128x256_1_0_0_1_n_n := fun a b i j => by pointwise
/-- The second block's. -/
theorem pv1 : IsPV (K := 512) dot_S128x512_S512x256_S128x256_1_0_0_1_n_n := fun a b i j => by pointwise
/-- The third block's. -/
theorem pv2 : IsPV (K := 768) dot_S128x768_S768x256_S128x256_1_0_0_1_n_n := fun a b i j => by pointwise
/-- The last block's. -/
theorem pv3 : IsPV (K := 1024) dot_S128x1024_S1024x256_S128x256_1_0_0_1_n_n := fun a b i j => by pointwise

/-! ## The loads and the stores -/

section
variable (i : grid0.Coords)
  (arg2 : Memref sig .tc .smem S24 .f32) (harg2 : arg2.IsWhole) (arg3 : Memref sig .tc .vmem S1x1024x768 .fp8e4m3) (harg3 : arg3.IsWhole)
  (arg4 : Memref sig .tc .vmem S1x1024x128 .fp8e4m3) (harg4 : arg4.IsWhole) (arg5 : Memref sig .tc .vmem S1x1024x128 .fp8e4m3) (harg5 : arg5.IsWhole)
  (arg6 : Memref sig .tc .vmem S1x1x1024 .f32) (harg6 : arg6.IsWhole) (arg7 : Memref sig .tc .vmem S1x1x1024 .f32) (harg7 : arg7.IsWhole)
  (arg9 : Memref sig .tc .vmem S128x1024 .bf16) (arg10 : Memref sig .tc .vmem S1024x128 .f32)
  (x0 : Vec Ideal S24 .f32) (x1 : Vec Ideal S1x1024x768 .fp8e4m3) (x2 : Vec Ideal S1x1024x128 .fp8e4m3)
  (x3 : Vec Ideal S1x1024x128 .fp8e4m3) (x4 : Vec Ideal S1x1x1024 .f32) (x5 : Vec Ideal S1x1x1024 .f32)

/-- A block of queries lies within the queries. -/
theorem inbQ (b : Fin 4) (h : Fin 6) : ∀ a, (![0, 256 * b.val, 128 * h.val] : Fin 3 → ℕ) a + S1x256x128.size a ≤ S1x1024x768.size a := by
  decide +revert

/-- Head `h`'s 256 query rows of block `b`. -/
def ldQ (b : Fin 4) (h : Fin 6) : Vec Ideal S1x256x128 .fp8e4m3 :=
  View.readAt (Elt Ideal) arg3.view (Rect.unit (s := S1x1024x768) ![0, 256 * b.val, 128 * h.val] S1x256x128.size (inbQ b h)).toLoadRect (harg3.unread x1)

/-- Head `h`'s query scale. -/
def ldS (h : Fin 6) : EReal :=
  View.readAt (Elt Ideal) arg2.view (Rect.unit (s := S24) (k0_off1 i (BitVec.ofNat 32 h.val)) S1.size (k0_off1_inb i h)).toLoadRect (harg2.unread x0)
    (Shape.Idx.first (numel1_S1.symm ▸ Nat.one_pos : 0 < S1.numel))

/-- The scaled values the scratch `arg9` is filled with. -/
def vtFill : FVec Ideal S128x1024 .bf16 :=
  k0_pay2 (View.readAt (Elt Ideal) arg5.view (Rect.unit (s := S1x1024x128) ![0, 0, 0] S1x1024x128.size inb_S1x1024x128_S1x1024x128_0_0_0).toLoadRect (harg5.unread x3))
    (View.readAt (Elt Ideal) arg7.view (Rect.unit (s := S1x1x1024) ![0, 0, 0] S1x1x1024.size inb_S1x1x1024_S1x1x1024_0_0_0).toLoadRect (harg7.unread x5))

/-- Head `h`'s key multipliers the scratch `arg10` is filled with. -/
def kmFill (h : Fin 6) : FVec Ideal S1024x128 .f32 :=
  k0_pay5 (View.readAt (Elt Ideal) arg6.view (Rect.unit (s := S1x1x1024) ![0, 0, 0] S1x1x1024.size inb_S1x1x1024_S1x1x1024_0_0_0).toLoadRect (harg6.unread x4))
    (ldS i arg2 harg2 x0 h)

/-- The scratch `arg9` after its fill. -/
def vtL : List (View.Piece (Elt Ideal) S128x1024 .bf16) :=
  [⟨Rect.unit (s := S128x1024) ![0, 0] S128x1024.size inb_S128x1024_S128x1024_0_0, vtFill arg5 harg5 arg7 harg7 x3 x5⟩]

/-- The scratch `arg10` after head `h`'s fill, over the fills of the heads before. -/
def kmL : (h : ℕ) → h < 6 → List (View.Piece (Elt Ideal) S1024x128 .f32)
  | 0, hh => [⟨Rect.unit (s := S1024x128) ![0, 0] S1024x128.size inb_S1024x128_S1024x128_0_0, kmFill i arg2 harg2 arg6 harg6 x0 x4 ⟨0, hh⟩⟩]
  | h + 1, hh => ⟨Rect.unit (s := S1024x128) ![0, 0] S1024x128.size inb_S1024x128_S1024x128_0_0, kmFill i arg2 harg2 arg6 harg6 x0 x4 ⟨h + 1, hh⟩⟩
      :: kmL h (by omega)

/-- Head `h`'s first block. -/
def pay0 (h : Fin 6) : FVec Ideal S1x256x128 .bf16 :=
  blkFirst (K := 256) shapes0 dot_S256x128_S256x128_S256x256_1_1_0_0_n_n dot_S128x256_S256x256_S128x256_1_0_0_1_n_n (ldQ arg3 harg3 x1 0 h)
    (View.readAt (Elt Ideal) arg4.view (Rect.unit (s := S1x1024x128) ![0, 0, 0] S1x256x128.size inb_S1x1024x128_S1x256x128_0_0_0).toLoadRect (harg4.unread x2))
    (arg10.view.readCov (kmL i arg2 harg2 arg6 harg6 x0 x4 h.val h.isLt) (Rect.unit (s := S1024x128) ![0, 0] S128x128.size inb_S1024x128_S128x128_0_0).toLoadRect)
    (arg10.view.readCov (kmL i arg2 harg2 arg6 harg6 x0 x4 h.val h.isLt) (Rect.unit (s := S1024x128) ![0, 0] S256x128.size inb_S1024x128_S256x128_0_0).toLoadRect)
    k0_pay4
    (arg9.view.readCov (vtL arg5 harg5 arg7 harg7 x3 x5) (Rect.unit (s := S128x1024) ![0, 0] S128x256.size inb_S128x1024_S128x256_0_0).toLoadRect)

/-- Head `h`'s second block. -/
def pay1 (h : Fin 6) : FVec Ideal S1x256x128 .bf16 :=
  blk (K := 512) (N := 384) shapes1 dot_S512x128_S256x128_S512x256_1_1_0_0_n_n dot_S128x512_S512x256_S128x256_1_0_0_1_n_n (ldQ arg3 harg3 x1 1 h)
    (View.readAt (Elt Ideal) arg4.view (Rect.unit (s := S1x1024x128) ![0, 0, 0] S1x512x128.size inb_S1x1024x128_S1x512x128_0_0_0).toLoadRect (harg4.unread x2))
    (arg10.view.readCov (kmL i arg2 harg2 arg6 harg6 x0 x4 h.val h.isLt) (Rect.unit (s := S1024x128) ![0, 0] S384x128.size inb_S1024x128_S384x128_0_0).toLoadRect)
    (arg10.view.readCov (kmL i arg2 harg2 arg6 harg6 x0 x4 h.val h.isLt) (Rect.unit (s := S1024x128) ![0, 0] S512x128.size inb_S1024x128_S512x128_0_0).toLoadRect)
    k0_pay4
    (arg9.view.readCov (vtL arg5 harg5 arg7 harg7 x3 x5) (Rect.unit (s := S128x1024) ![0, 0] S128x512.size inb_S128x1024_S128x512_0_0).toLoadRect) shapes1'

/-- Head `h`'s third block. -/
def pay2 (h : Fin 6) : FVec Ideal S1x256x128 .bf16 :=
  blk (K := 768) (N := 640) shapes2 dot_S768x128_S256x128_S768x256_1_1_0_0_n_n dot_S128x768_S768x256_S128x256_1_0_0_1_n_n (ldQ arg3 harg3 x1 2 h)
    (View.readAt (Elt Ideal) arg4.view (Rect.unit (s := S1x1024x128) ![0, 0, 0] S1x768x128.size inb_S1x1024x128_S1x768x128_0_0_0).toLoadRect (harg4.unread x2))
    (arg10.view.readCov (kmL i arg2 harg2 arg6 harg6 x0 x4 h.val h.isLt) (Rect.unit (s := S1024x128) ![0, 0] S640x128.size inb_S1024x128_S640x128_0_0).toLoadRect)
    (arg10.view.readCov (kmL i arg2 harg2 arg6 harg6 x0 x4 h.val h.isLt) (Rect.unit (s := S1024x128) ![0, 0] S768x128.size inb_S1024x128_S768x128_0_0).toLoadRect)
    k0_pay4
    (arg9.view.readCov (vtL arg5 harg5 arg7 harg7 x3 x5) (Rect.unit (s := S128x1024) ![0, 0] S128x768.size inb_S128x1024_S128x768_0_0).toLoadRect) shapes2'

/-- Head `h`'s fourth block. -/
def pay3 (h : Fin 6) : FVec Ideal S1x256x128 .bf16 :=
  blk (K := 1024) (N := 896) shapes3 dot_S1024x128_S256x128_S1024x256_1_1_0_0_n_n dot_S128x1024_S1024x256_S128x256_1_0_0_1_n_n (ldQ arg3 harg3 x1 3 h)
    (View.readAt (Elt Ideal) arg4.view (Rect.unit (s := S1x1024x128) ![0, 0, 0] S1x1024x128.size inb_S1x1024x128_S1x1024x128_0_0_0).toLoadRect (harg4.unread x2))
    (arg10.view.readCov (kmL i arg2 harg2 arg6 harg6 x0 x4 h.val h.isLt) (Rect.unit (s := S1024x128) ![0, 0] S896x128.size inb_S1024x128_S896x128_0_0).toLoadRect)
    (arg10.view.readCov (kmL i arg2 harg2 arg6 harg6 x0 x4 h.val h.isLt) (Rect.unit (s := S1024x128) ![0, 0] S1024x128.size inb_S1024x128_S1024x128_0_0).toLoadRect)
    k0_pay4
    (arg9.view.readCov (vtL arg5 harg5 arg7 harg7 x3 x5) (Rect.unit (s := S128x1024) ![0, 0] S128x1024.size inb_S128x1024_S128x1024_0_0).toLoadRect) shapes3'

/-- The rectangle block `b` of head `h` is stored to. -/
def outR (b : Fin 4) (h : Fin 6) : Rect S1x1024x768 := Rect.unit (s := S1x1024x768) ![0, 256 * b.val, 128 * h.val] S1x256x128.size (inbQ b h)

/-- Head `h`'s four stores, last first. -/
def headPieces (h : Fin 6) : List (View.Piece (Elt Ideal) S1x1024x768 .bf16) :=
  [⟨outR 3 h, pay3 i arg2 harg2 arg3 harg3 arg4 harg4 arg5 harg5 arg6 harg6 arg7 harg7 arg9 arg10 x0 x1 x2 x3 x4 x5 h⟩,
   ⟨outR 2 h, pay2 i arg2 harg2 arg3 harg3 arg4 harg4 arg5 harg5 arg6 harg6 arg7 harg7 arg9 arg10 x0 x1 x2 x3 x4 x5 h⟩,
   ⟨outR 1 h, pay1 i arg2 harg2 arg3 harg3 arg4 harg4 arg5 harg5 arg6 harg6 arg7 harg7 arg9 arg10 x0 x1 x2 x3 x4 x5 h⟩,
   ⟨outR 0 h, pay0 i arg2 harg2 arg3 harg3 arg4 harg4 arg5 harg5 arg6 harg6 arg7 harg7 arg9 arg10 x0 x1 x2 x3 x4 x5 h⟩]

/-- All 24 stores, last first. -/
def pieces : List (View.Piece (Elt Ideal) S1x1024x768 .bf16) :=
  [5, 4, 3, 2, 1, 0].flatMap (headPieces i arg2 harg2 arg3 harg3 arg4 harg4 arg5 harg5 arg6 harg6 arg7 harg7 arg9 arg10 x0 x1 x2 x3 x4 x5)

/-- The run's stores are these. -/
theorem run_pieces (c : Dev nD) (arg8 : Memref sig .tc .vmem S1x1024x768 .bf16) (harg8 : arg8.IsWhole) (harg9 : arg9.IsWhole) (harg10 : arg10.IsWhole) :
    (kernelRun0_A (F := Ideal) c i arg2 harg2 arg3 harg3 arg4 harg4 arg5 harg5 arg6 harg6 arg7 harg7 arg8 harg8 arg9 harg9 arg10 harg10 x0 x1 x2 x3 x4 x5).1
      = pieces i arg2 harg2 arg3 harg3 arg4 harg4 arg5 harg5 arg6 harg6 arg7 harg7 arg9 arg10 x0 x1 x2 x3 x4 x5 := by
  sl_kernel_rfl

end

end Cert.KernelIdeal.Hand

end
-- ==== Proof.KernelBlock.lean ====
/- What one grid point of the kernel leaves in its output block, as a function of its input blocks: at every query row and
   lane, the attention of that row's head over all keys. -/
module

public import Idealize.ShloMosaic.Lib.Pipeline.ValueKit
public import Idealize.ShloMosaic.Lib.Pipeline.ReadBack
public import Idealize.ShloMosaic.Lib.WordCmp
public import proofs.«01_k».proof.Proof.Pieces

@[expose] public section

noncomputable section

namespace Cert.KernelIdeal.Hand

open Cert.KernelIdeal Cert.KernelIdeal.Gen Idealize.ShloMosaic Idealize.ShloMosaic.TcCoe Cert.Attn

/-! ## Constants -/

/-- The score scale, as the program writes it. -/
def cS : EReal := Ideal.ofBits .f32 0x3DB504F3#32

/-- `1 / ln 2`. -/
def cL : EReal := (((Real.log 2)⁻¹ : ℝ) : EReal)

/-- Key `k` of an array of 1024 keys. -/
def key (k : ℕ) : Fin 1024 := ⟨k % 1024, Nat.mod_lt _ (by norm_num)⟩

/-- The bound of the diagonal tile: `+∞` on and above the diagonal, `-∞` below. -/
theorem lim_apply (k r : Fin 128) : (k0_pay4 : FVec Ideal S128x128 .f32) (ix2 k r) = if k.val ≤ r.val then ⊤ else ⊥ := by
  unfold k0_pay4
  pointwise
  rw [WordCmp.cmpi_sle_of_lt (by rw [WordCmp.toNat_ofNat_of_lt (by omega)]; omega) (by rw [WordCmp.toNat_ofNat_of_lt (by omega)]; omega),
    WordCmp.toNat_ofNat_of_lt (by omega), WordCmp.toNat_ofNat_of_lt (by omega)]
  have ht : Ideal.ofBits .f32 2139095040#32 = (⊤ : EReal) := by simp [Ideal.ofBits, Ideal.ieee]
  have hb : Ideal.ofBits .f32 4286578688#32 = (⊥ : EReal) := by simp [Ideal.ofBits, Ideal.ieee]
  rw [ht, hb]
  by_cases h : k.val ≤ r.val
  · rw [if_pos h, decide_eq_true h]; rfl
  · rw [if_neg h, decide_eq_false h]; rfl

/-! ## The loads -/

section
variable (i : grid0.Coords)
  (arg2 : Memref sig .tc .smem S24 .f32) (harg2 : arg2.IsWhole) (arg3 : Memref sig .tc .vmem S1x1024x768 .fp8e4m3) (harg3 : arg3.IsWhole)
  (arg4 : Memref sig .tc .vmem S1x1024x128 .fp8e4m3) (harg4 : arg4.IsWhole) (arg5 : Memref sig .tc .vmem S1x1024x128 .fp8e4m3) (harg5 : arg5.IsWhole)
  (arg6 : Memref sig .tc .vmem S1x1x1024 .f32) (harg6 : arg6.IsWhole) (arg7 : Memref sig .tc .vmem S1x1x1024 .f32) (harg7 : arg7.IsWhole)
  (arg9 : Memref sig .tc .vmem S128x1024 .bf16) (arg10 : Memref sig .tc .vmem S1024x128 .f32)
  (x0 : Vec Ideal S24 .f32) (x1 : Vec Ideal S1x1024x768 .fp8e4m3) (x2 : Vec Ideal S1x1024x128 .fp8e4m3)
  (x3 : Vec Ideal S1x1024x128 .fp8e4m3) (x4 : Vec Ideal S1x1x1024 .f32) (x5 : Vec Ideal S1x1x1024 .f32)

/-- The queries of block `b` of head `h`. -/
theorem ldQ_apply (b : Fin 4) (h : Fin 6) (r : Fin 256) (e : Fin 128) :
    ldQ arg3 harg3 x1 b h (ix3 0 r e)
      = x1 (ix3 0 ⟨256 * b.val + r.val, by omega⟩ ⟨128 * h.val + e.val, by omega⟩) := by
  unfold ldQ
  rw [View.readAt_eq_ld, harg3.read_unread]
  refine congrArg x1 (funext fun a => Fin.ext ?_)
  match a with
  | ⟨0, _⟩ => rfl
  | ⟨1, _⟩ => show 256 * b.val + 1 * r.val = 256 * b.val + r.val; omega
  | ⟨2, _⟩ => show 128 * h.val + 1 * e.val = 128 * h.val + e.val; omega

/-- The first `K` keys. -/
theorem ldK_apply (K : ℕ) (hK : K ≤ 1024) (inb : ∀ a, (![0, 0, 0] : Fin 3 → ℕ) a + (⟨3, ![1, K, 128]⟩ : Shape).size a ≤ S1x1024x128.size a)
    (k : Fin K) (e : Fin 128) :
    View.readAt (Elt Ideal) arg4.view (Rect.unit (s := S1x1024x128) ![0, 0, 0] (⟨3, ![1, K, 128]⟩ : Shape).size inb).toLoadRect (harg4.unread x2)
      ((ix3 0 k e : (⟨3, ![1, K, 128]⟩ : Shape).Idx)) = x2 (ix3 0 (key k.val) e) := by
  rw [View.readAt_eq_ld, harg4.read_unread]
  refine congrArg x2 (funext fun a => Fin.ext ?_)
  match a with
  | ⟨0, _⟩ => rfl
  | ⟨1, _⟩ => show 0 + 1 * k.val = k.val % 1024; have := k.isLt; omega
  | ⟨2, _⟩ => show 0 + 1 * e.val = e.val; omega

/-- Head `h`'s query scale is entry `6 kv + h` of the scales. -/
theorem ldS_apply (h : Fin 6) : ldS i arg2 harg2 x0 h = x0 (ix1 ⟨(i 1).val * 6 + h.val, by have := (i 1).isLt; have h4 : (i 1).val < 4 := this; omega⟩) := by
  unfold ldS
  rw [View.readAt_eq_ld, harg2.read_unread]
  refine congrArg x0 (funext fun a => Fin.ext ?_)
  match a with
  | ⟨0, _⟩ =>
    have h4 : (i 1).val < 4 := (i 1).isLt
    show k0_off1 i (BitVec.ofNat 32 h.val) 0 + 1 * 0 = _
    unfold k0_off1
    show (Scalar.indexCast (Scalar.addi (Scalar.muli (BitVec.ofNat 32 (i 1).val) 6#32) (BitVec.ofNat 32 h.val))).toNat + 1 * 0 = (i 1).val * 6 + h.val
    generalize (i 1).val = n at h4
    interval_cases n <;> fin_cases h <;> rfl

omit i x0 x1 x2 x3 x4 x5 arg2 harg2 arg3 harg3 arg4 harg4 arg5 harg5 arg6 harg6 arg7 harg7 arg9 arg10 in
/-- A load from the corner of a scratch reads its last fill. -/
theorem fill_apply {A B a b : ℕ} {φ : EltTy} (v : View sig .tc .vmem ⟨2, ![A, B]⟩ φ)
    (inb : ∀ d, (![0, 0] : Fin 2 → ℕ) d + (⟨2, ![A, B]⟩ : Shape).size d ≤ (⟨2, ![A, B]⟩ : Shape).size d)
    (Z : (⟨2, ![A, B]⟩ : Shape).Idx → Elt Ideal φ) (L : List (View.Piece (Elt Ideal) ⟨2, ![A, B]⟩ φ))
    (inb' : ∀ d, (![0, 0] : Fin 2 → ℕ) d + (⟨2, ![a, b]⟩ : Shape).size d ≤ (⟨2, ![A, B]⟩ : Shape).size d)
    (x : Fin a) (y : Fin b) (ha : x.val < A) (hb : y.val < B) :
    v.readCov (⟨Rect.unit (s := ⟨2, ![A, B]⟩) ![0, 0] (⟨2, ![A, B]⟩ : Shape).size inb, Z⟩ :: L)
        (Rect.unit (s := ⟨2, ![A, B]⟩) ![0, 0] (⟨2, ![a, b]⟩ : Shape).size inb').toLoadRect (ix2 x y : (⟨2, ![a, b]⟩ : Shape).Idx)
      = Z (ix2 ⟨x.val, ha⟩ ⟨y.val, hb⟩) := by
  rw [View.readCov_fill v inb Z L _ (fun d => by match d with | ⟨0, _⟩ => rfl | ⟨1, _⟩ => rfl)]
  refine congrArg Z (funext fun d => Fin.ext ?_)
  match d with
  | ⟨0, _⟩ => show 0 + 1 * x.val = x.val; omega
  | ⟨1, _⟩ => show 0 + 1 * y.val = y.val; omega

/-- The scaled values, lanes by keys. -/
theorem vtFill_apply (c : Fin 128) (k : Fin 1024) : vtFill arg5 harg5 arg7 harg7 x3 x5 (ix2 c k) = x3 (ix3 0 k c) * x5 (ix3 0 0 k) := by
  unfold vtFill
  rw [View.readAt_eq_ld, View.readAt_eq_ld, harg5.read_unread, harg7.read_unread]
  unfold k0_pay2
  pointwise

/-- Head `h`'s multipliers, keys by queries. -/
theorem kmFill_apply (h : Fin 6) (k : Fin 1024) (r : Fin 128) :
    kmFill i arg2 harg2 arg6 harg6 x0 x4 h (ix2 k r) = x4 (ix3 0 0 k) * ((ldS i arg2 harg2 x0 h * cS) * cL) := by
  unfold kmFill
  rw [View.readAt_eq_ld, harg6.read_unread]
  unfold k0_pay5 k0_pay3
  pointwise
  rw [show Named.named (F := Ideal) κ "log2_e" (φ := .f32) 0x3FB8AA3B#32 = cL from
    IdealRules.named_const.ideal_named_scalar κ "log2_e" _ cL rfl]
  rfl

/-- A load of the value scratch after its fill. -/
theorem vt_apply (K : ℕ) (hK : K ≤ 1024) (inb : ∀ a, (![0, 0] : Fin 2 → ℕ) a + (⟨2, ![128, K]⟩ : Shape).size a ≤ S128x1024.size a)
    (c : Fin 128) (k : Fin K) :
    arg9.view.readCov (vtL arg5 harg5 arg7 harg7 x3 x5) (Rect.unit (s := S128x1024) ![0, 0] (⟨2, ![128, K]⟩ : Shape).size inb).toLoadRect
      ((ix2 c k : (⟨2, ![128, K]⟩ : Shape).Idx)) = x3 (ix3 0 (key k.val) c) * x5 (ix3 0 0 (key k.val)) := by
  unfold vtL
  rw [fill_apply arg9.view _ _ _ inb c k c.isLt (by omega), vtFill_apply]
  rw [show (⟨k.val, _⟩ : Fin 1024) = key k.val from Fin.ext (Nat.mod_eq_of_lt (by omega)).symm]

/-- The last fill of the multiplier scratch before head `h` reads it is head `h`'s own. -/
theorem kmL_eq (h : ℕ) (hh : h < 6) : ∃ L, kmL i arg2 harg2 arg6 harg6 x0 x4 h hh
    = ⟨Rect.unit (s := S1024x128) ![0, 0] S1024x128.size inb_S1024x128_S1024x128_0_0, kmFill i arg2 harg2 arg6 harg6 x0 x4 ⟨h, hh⟩⟩ :: L := by
  cases h with
  | zero => exact ⟨[], rfl⟩
  | succ h => exact ⟨_, rfl⟩

/-- A load of the multiplier scratch after head `h`'s fill. -/
theorem km_apply (h : Fin 6) (K : ℕ) (hK : K ≤ 1024) (inb : ∀ a, (![0, 0] : Fin 2 → ℕ) a + (⟨2, ![K, 128]⟩ : Shape).size a ≤ S1024x128.size a)
    (k : Fin K) (r : Fin 128) :
    arg10.view.readCov (kmL i arg2 harg2 arg6 harg6 x0 x4 h.val h.isLt) (Rect.unit (s := S1024x128) ![0, 0] (⟨2, ![K, 128]⟩ : Shape).size inb).toLoadRect
      ((ix2 k r : (⟨2, ![K, 128]⟩ : Shape).Idx)) = x4 (ix3 0 0 (key k.val)) * ((ldS i arg2 harg2 x0 h * cS) * cL) := by
  obtain ⟨L, hL⟩ := kmL_eq i arg2 harg2 arg6 harg6 x0 x4 h.val h.isLt
  rw [hL, fill_apply arg10.view _ _ _ inb k r (by omega) r.isLt, kmFill_apply]
  rw [show (⟨k.val, _⟩ : Fin 1024) = key k.val from Fin.ext (Nat.mod_eq_of_lt (by omega)).symm]

/-! ## The point's output block -/

/-- Lane `e` of head `h`. -/
def lane (h : Fin 6) (e : Fin 128) : Fin 768 := ⟨128 * h.val + e.val, by omega⟩

/-- The keys. -/
def kvOf : ℕ → Fin 128 → EReal := fun k e => x2 (ix3 0 (key k) e)

/-- Head `h`'s queries. -/
def qOf (h : Fin 6) : ℕ → Fin 128 → EReal := fun r e => x1 (ix3 0 (key r) (lane h e))

/-- Head `h`'s key multipliers: the key scale by the query scale, the score scale and `1 / ln 2`. -/
def kmOf (h : Fin 6) : ℕ → EReal := fun k => x4 (ix3 0 0 (key k)) * ((ldS i arg2 harg2 x0 h * cS) * cL)

/-- The scaled values of lane `c`. -/
def vOf (c : Fin 128) : ℕ → EReal := fun k => x3 (ix3 0 (key k) c) * x5 (ix3 0 0 (key k))

/-- The point's attention of head `h` at query row `R` and lane `c`. -/
def pointAt (h : Fin 6) (R : ℕ) (c : Fin 128) : EReal :=
  attn2 1024 (fun k => sc 0 (kvOf x2) (qOf x1 h) (kmOf i arg2 harg2 x0 x4 h) k R) (vOf x3 x5 c)

omit i x0 x1 x2 x3 x4 x5 arg2 harg2 arg3 harg3 arg4 harg4 arg5 harg5 arg6 harg6 arg7 harg7 arg9 arg10 in
/-- A block's rows counted from the first row of all. -/
theorem sc_shift (M : ℕ) (Kv Q : ℕ → Fin 128 → EReal) (Km : ℕ → EReal) (k r : ℕ) :
    sc M Kv (fun r => Q (M + r)) Km k r = sc 0 Kv Q Km k (M + r) := by
  unfold sc
  rw [Nat.zero_add]

/-- The same, by the number of the query. -/
theorem ldQ_apply' (b : Fin 4) (h : Fin 6) (r : Fin 256) (e : Fin 128) :
    ldQ arg3 harg3 x1 b h (ix3 0 r e) = x1 (ix3 0 (key (256 * b.val + r.val)) (lane h e)) := by
  rw [ldQ_apply]
  rw [show (⟨256 * b.val + r.val, _⟩ : Fin 1024) = key (256 * b.val + r.val) from Fin.ext (Nat.mod_eq_of_lt (by omega)).symm]
  rfl

/-- What the first block of head `h` stores. -/
theorem pay0_apply (h : Fin 6) (r : Fin 256) (c : Fin 128) :
    pay0 i arg2 harg2 arg3 harg3 arg4 harg4 arg5 harg5 arg6 harg6 arg7 harg7 arg9 arg10 x0 x1 x2 x3 x4 x5 h (ix3 0 r c)
      = pointAt i arg2 harg2 x0 x1 x2 x3 x4 x5 h (256 * 0 + r.val) c := by
  refine (blkFirst_apply shapes0 _ _ _ _ _ _ _ _ qk0 pv0 (kvOf x2) (fun r => qOf x1 h (0 + r))
    (kmOf i arg2 harg2 x0 x4 h) (vOf x3 x5 c) c lim_apply
    (fun r e => ldQ_apply' arg3 harg3 x1 0 h r e)
    (fun k e => ldK_apply arg4 harg4 x2 256 (by norm_num) _ k e)
    (fun k r => km_apply i arg2 harg2 arg6 harg6 arg10 x0 x4 h 128 (by norm_num) _ k r)
    (fun k r => km_apply i arg2 harg2 arg6 harg6 arg10 x0 x4 h 256 (by norm_num) _ k r)
    (fun k => vt_apply arg5 harg5 arg7 harg7 arg9 x3 x5 256 (by norm_num) _ c k) r).trans ?_
  exact congrArg (attn2 1024 · _) (funext fun k => sc_shift 0 _ _ _ k r.val)

/-- What the second block of head `h` stores. -/
theorem pay1_apply (h : Fin 6) (r : Fin 256) (c : Fin 128) :
    pay1 i arg2 harg2 arg3 harg3 arg4 harg4 arg5 harg5 arg6 harg6 arg7 harg7 arg9 arg10 x0 x1 x2 x3 x4 x5 h (ix3 0 r c)
      = pointAt i arg2 harg2 x0 x1 x2 x3 x4 x5 h (256 * 1 + r.val) c := by
  refine (blk_apply shapes1 _ _ _ _ _ _ _ _ qk1 pv1 (kvOf x2) (fun r => qOf x1 h (256 + r))
    (kmOf i arg2 harg2 x0 x4 h) (vOf x3 x5 c) c lim_apply
    (fun r e => ldQ_apply' arg3 harg3 x1 1 h r e)
    (fun k e => ldK_apply arg4 harg4 x2 512 (by norm_num) _ k e)
    (fun k r => km_apply i arg2 harg2 arg6 harg6 arg10 x0 x4 h 384 (by norm_num) _ k r)
    (fun k r => km_apply i arg2 harg2 arg6 harg6 arg10 x0 x4 h 512 (by norm_num) _ k r)
    (fun k => vt_apply arg5 harg5 arg7 harg7 arg9 x3 x5 512 (by norm_num) _ c k) shapes1' r).trans ?_
  exact congrArg (attn2 1024 · _) (funext fun k => sc_shift 256 _ _ _ k r.val)

/-- What the third block of head `h` stores. -/
theorem pay2_apply (h : Fin 6) (r : Fin 256) (c : Fin 128) :
    pay2 i arg2 harg2 arg3 harg3 arg4 harg4 arg5 harg5 arg6 harg6 arg7 harg7 arg9 arg10 x0 x1 x2 x3 x4 x5 h (ix3 0 r c)
      = pointAt i arg2 harg2 x0 x1 x2 x3 x4 x5 h (256 * 2 + r.val) c := by
  refine (blk_apply shapes2 _ _ _ _ _ _ _ _ qk2 pv2 (kvOf x2) (fun r => qOf x1 h (512 + r))
    (kmOf i arg2 harg2 x0 x4 h) (vOf x3 x5 c) c lim_apply
    (fun r e => ldQ_apply' arg3 harg3 x1 2 h r e)
    (fun k e => ldK_apply arg4 harg4 x2 768 (by norm_num) _ k e)
    (fun k r => km_apply i arg2 harg2 arg6 harg6 arg10 x0 x4 h 640 (by norm_num) _ k r)
    (fun k r => km_apply i arg2 harg2 arg6 harg6 arg10 x0 x4 h 768 (by norm_num) _ k r)
    (fun k => vt_apply arg5 harg5 arg7 harg7 arg9 x3 x5 768 (by norm_num) _ c k) shapes2' r).trans ?_
  exact congrArg (attn2 1024 · _) (funext fun k => sc_shift 512 _ _ _ k r.val)

/-- What the last block of head `h` stores. -/
theorem pay3_apply (h : Fin 6) (r : Fin 256) (c : Fin 128) :
    pay3 i arg2 harg2 arg3 harg3 arg4 harg4 arg5 harg5 arg6 harg6 arg7 harg7 arg9 arg10 x0 x1 x2 x3 x4 x5 h (ix3 0 r c)
      = pointAt i arg2 harg2 x0 x1 x2 x3 x4 x5 h (256 * 3 + r.val) c := by
  refine (blk_apply shapes3 _ _ _ _ _ _ _ _ qk3 pv3 (kvOf x2) (fun r => qOf x1 h (768 + r))
    (kmOf i arg2 harg2 x0 x4 h) (vOf x3 x5 c) c lim_apply
    (fun r e => ldQ_apply' arg3 harg3 x1 3 h r e)
    (fun k e => ldK_apply arg4 harg4 x2 1024 (by norm_num) _ k e)
    (fun k r => km_apply i arg2 harg2 arg6 harg6 arg10 x0 x4 h 896 (by norm_num) _ k r)
    (fun k r => km_apply i arg2 harg2 arg6 harg6 arg10 x0 x4 h 1024 (by norm_num) _ k r)
    (fun k => vt_apply arg5 harg5 arg7 harg7 arg9 x3 x5 1024 (by norm_num) _ c k) shapes3' r).trans ?_
  exact congrArg (attn2 1024 · _) (funext fun k => sc_shift 768 _ _ _ k r.val)

/-- What the point leaves in its output block. -/
def pointOut : S1x1024x768.Idx → EReal := fun y =>
  pointAt i arg2 harg2 x0 x1 x2 x3 x4 x5 ⟨(y 2).val / 128, by have h : (y 2).val < 768 := (y 2).isLt; omega⟩ (y 1).val
    ⟨(y 2).val % 128, Nat.mod_lt _ (by norm_num)⟩

/-- A store of the attention to block `b` of head `h` is a block of `pointOut`. -/
theorem piece_apply (b : Fin 4) (h : Fin 6) (P : S1x256x128.Idx → EReal)
    (hP : ∀ (r : Fin 256) (c : Fin 128), P (ix3 0 r c) = pointAt i arg2 harg2 x0 x1 x2 x3 x4 x5 h (256 * b.val + r.val) c) (x : S1x256x128.Idx) :
    P x = pointOut i arg2 harg2 x0 x1 x2 x3 x4 x5 ((outR b h).emb x) := by
  have hx : x = (ix3 0 (x 1 : Fin 256) (x 2 : Fin 128) : S1x256x128.Idx) := by
    funext a
    match a with
    | ⟨0, _⟩ => exact Subsingleton.elim (α := Fin 1) _ _
    | ⟨1, _⟩ => rfl
    | ⟨2, _⟩ => rfl
  have h2 : (x 2).val < 128 := (x 2).isLt
  have e1 : ((outR b h).emb x 1).val = 256 * b.val + (x 1).val := by
    show 256 * b.val + 1 * (x 1).val = _; omega
  have e2 : ((outR b h).emb x 2).val = 128 * h.val + (x 2).val := by
    show 128 * h.val + 1 * (x 2).val = _; omega
  refine (congrArg P hx).trans ((hP (x 1) (x 2)).trans ?_)
  unfold pointOut
  congr 1
  · exact Fin.ext (by show h.val = ((outR b h).emb x 2).val / 128; rw [e2]; omega)
  · exact e1.symm
  · exact Fin.ext (by show (x 2).val = ((outR b h).emb x 2).val % 128; rw [e2]; omega)

/-- Every store of the point is a block of `pointOut`. -/
theorem pieces_apply (p : View.Piece (Elt Ideal) S1x1024x768 .bf16)
    (hp : p ∈ pieces i arg2 harg2 arg3 harg3 arg4 harg4 arg5 harg5 arg6 harg6 arg7 harg7 arg9 arg10 x0 x1 x2 x3 x4 x5) (x : p.1.shape.Idx) :
    p.2 x = pointOut i arg2 harg2 x0 x1 x2 x3 x4 x5 (p.1.emb x) := by
  obtain ⟨h, -, hp⟩ := List.mem_flatMap.mp hp
  simp only [headPieces, List.mem_cons, List.not_mem_nil, or_false] at hp
  rcases hp with rfl | rfl | rfl | rfl
  · exact piece_apply i arg2 harg2 x0 x1 x2 x3 x4 x5 3 h _ (pay3_apply i arg2 harg2 arg3 harg3 arg4 harg4 arg5 harg5 arg6 harg6 arg7 harg7 arg9 arg10 x0 x1 x2 x3 x4 x5 h) x
  · exact piece_apply i arg2 harg2 x0 x1 x2 x3 x4 x5 2 h _ (pay2_apply i arg2 harg2 arg3 harg3 arg4 harg4 arg5 harg5 arg6 harg6 arg7 harg7 arg9 arg10 x0 x1 x2 x3 x4 x5 h) x
  · exact piece_apply i arg2 harg2 x0 x1 x2 x3 x4 x5 1 h _ (pay1_apply i arg2 harg2 arg3 harg3 arg4 harg4 arg5 harg5 arg6 harg6 arg7 harg7 arg9 arg10 x0 x1 x2 x3 x4 x5 h) x
  · exact piece_apply i arg2 harg2 x0 x1 x2 x3 x4 x5 0 h _ (pay0_apply i arg2 harg2 arg3 harg3 arg4 harg4 arg5 harg5 arg6 harg6 arg7 harg7 arg9 arg10 x0 x1 x2 x3 x4 x5 h) x

/-- The point's output block. -/
theorem out_eq (c : Dev nD) (arg8 : Memref sig .tc .vmem S1x1024x768 .bf16) (harg8 : arg8.IsWhole) (harg9 : arg9.IsWhole) (harg10 : arg10.IsWhole) :
    out0_A_6 (F := Ideal) c i arg2 harg2 arg3 harg3 arg4 harg4 arg5 harg5 arg6 harg6 arg7 harg7 arg8 harg8 arg9 harg9 arg10 harg10 x0 x1 x2 x3 x4 x5
      = pointOut i arg2 harg2 x0 x1 x2 x3 x4 x5 := by
  funext y
  have hc := cover0_A_6 (F := Ideal) c i arg2 harg2 arg3 harg3 arg4 harg4 arg5 harg5 arg6 harg6 arg7 harg7 arg8 harg8 arg9 harg9 arg10 harg10 x0 x1 x2 x3 x4 x5
  unfold out0_A_6
  rw [View.read_writes_eq_canon _ _ _ hc]
  have hr := run_pieces i arg2 harg2 arg3 harg3 arg4 harg4 arg5 harg5 arg6 harg6 arg7 harg7 arg9 arg10 x0 x1 x2 x3 x4 x5 c arg8 harg8 harg9 harg10
  refine View.canon_apply_of_pieces _ _ (fun p hp x => ?_) y (hc y)
  exact pieces_apply i arg2 harg2 arg3 harg3 arg4 harg4 arg5 harg5 arg6 harg6 arg7 harg7 arg9 arg10 x0 x1 x2 x3 x4 x5 p (hr ▸ hp) x

end

end Cert.KernelIdeal.Hand

end
-- ==== Proof.KernelValue.lean ====
/- The kernel's result as one function of its six arguments: grid point `(b, g)` writes the six heads of batch `b` that
   share key head `g`, and the points' blocks tile the result. -/
module

public import proofs.«01_k».proof.Proof.KernelBlock
public import proofs.«01_k».proof.Proof.Gen.KernelIdeal.Value
public import Idealize.ShloMosaic.Lib.StableHlo.RunRead

@[expose] public section

noncomputable section

namespace Cert.KernelIdeal.Hand

open Cert.KernelIdeal Cert.KernelIdeal.Gen Idealize.ShloMosaic Idealize.ShloMosaic.TcCoe Cert.Attn Idealize.SL.Sem

variable (m : (ℓ : Loc nD τ sig) → Buf (Elt Ideal) ℓ) (c : Dev nD)

/-! ## The arguments -/

/-- The queries. -/
abbrev aQ : S2x1024x3072.Idx → EReal := m ((c : Thread nD τ).loc main_arg0)
/-- The keys. -/
abbrev aK : S2x1024x512.Idx → EReal := m ((c : Thread nD τ).loc main_arg1)
/-- The values. -/
abbrev aV : S2x1024x512.Idx → EReal := m ((c : Thread nD τ).loc main_arg2)
/-- The query scales. -/
abbrev aQs : S24.Idx → EReal := m ((c : Thread nD τ).loc main_arg3)
/-- The key scales. -/
abbrev aKs : S2x1024x4.Idx → EReal := m ((c : Thread nD τ).loc main_arg4)
/-- The value scales. -/
abbrev aVs : S2x1024x4.Idx → EReal := m ((c : Thread nD τ).loc main_arg5)

/-! ## The scale operands, as the grid finds them -/

/-- A scale array `[2, 1024, 4]` laid out by batch and key head. -/
theorem scale_apply (x : S2x1024x4.Idx → EReal) (b : Fin 2) (g : Fin 4) (k : Fin 1024) :
    shapeCast S8x1x1024 (transpose S2x4x1024 [0, 2, 1] x transposes_S2x1024x4_S2x4x1024_0_2_1) shapeCasts_S2x4x1024_S8x1x1024
      (ix3 ⟨4 * b.val + g.val, by omega⟩ 0 k) = x (ix3 b k g) := by
  refine (shapeCast_apply _ _ _ (ix3 b g k) ?_).trans ?_
  · rw [Shape.rowMajor_val_three, Shape.rowMajor_val_three]
    show (b.val * 4 + g.val) * 1024 + k.val = ((4 * b.val + g.val) * 1 + 0) * 1024 + k.val
    omega
  · pointwise

/-- The key scales as the kernel is given them. -/
theorem V_v1 : V m c main_v1 = shapeCast S8x1x1024 (transpose S2x4x1024 [0, 2, 1] (aKs m c)
    transposes_S2x1024x4_S2x4x1024_0_2_1) shapeCasts_S2x4x1024_S8x1x1024 := by
  unfold V
  after_results
  rfl

/-- The value scales as the kernel is given them. -/
theorem V_v3 : V m c main_v3 = shapeCast S8x1x1024 (transpose S2x4x1024 [0, 2, 1] (aVs m c)
    transposes_S2x1024x4_S2x4x1024_0_2_1) shapeCasts_S2x4x1024_S8x1x1024 := by
  unfold V
  after_results
  rfl

/-! ## The blocks -/

/-- Which block of each array a grid point holds. -/
theorem idx (t : Fin cfg0.N) :
    win0_0.index t = ![0] ∧ win0_1.index t = ![(grid0.coords t 0).val, 0, (grid0.coords t 1).val]
      ∧ win0_2.index t = ![(grid0.coords t 0).val, 0, (grid0.coords t 1).val] ∧ win0_3.index t = ![(grid0.coords t 0).val, 0, (grid0.coords t 1).val]
      ∧ win0_4.index t = ![4 * (grid0.coords t 0).val + (grid0.coords t 1).val, 0, 0]
      ∧ win0_5.index t = ![4 * (grid0.coords t 0).val + (grid0.coords t 1).val, 0, 0]
      ∧ win0_6.index t = ![(grid0.coords t 0).val, 0, (grid0.coords t 1).val] := by
  revert t; decide +kernel

/-- The point's batch. -/
def bOf (t : Fin cfg0.N) : Fin 2 := grid0.coords t 0
/-- The point's key head. -/
def gOf (t : Fin cfg0.N) : Fin 4 := grid0.coords t 1

/-- A grid point's queries. -/
theorem iblk1 (t : Fin cfg0.N) (r : Fin 1024) (e : Fin 768) :
    (iblk m c 1 t : S1x1024x768.Idx → EReal) (ix3 0 r e)
      = (aQ m c) (ix3 (bOf t) r ⟨768 * (gOf t).val + e.val, by omega⟩) := by
  obtain ⟨i0, i1, i2, i3, i4, i5, i6⟩ := idx t
  unfold iblk
  rw [V_main_arg0]
  blk_ext [i1, bOf, gOf]

/-- A grid point's keys. -/
theorem iblk2 (t : Fin cfg0.N) (k : Fin 1024) (e : Fin 128) :
    (iblk m c 2 t : S1x1024x128.Idx → EReal) (ix3 0 k e)
      = (aK m c) (ix3 (bOf t) k ⟨128 * (gOf t).val + e.val, by omega⟩) := by
  obtain ⟨i0, i1, i2, i3, i4, i5, i6⟩ := idx t
  unfold iblk
  rw [V_main_arg1]
  blk_ext [i2, bOf, gOf]

/-- A grid point's values. -/
theorem iblk3 (t : Fin cfg0.N) (k : Fin 1024) (e : Fin 128) :
    (iblk m c 3 t : S1x1024x128.Idx → EReal) (ix3 0 k e)
      = (aV m c) (ix3 (bOf t) k ⟨128 * (gOf t).val + e.val, by omega⟩) := by
  obtain ⟨i0, i1, i2, i3, i4, i5, i6⟩ := idx t
  unfold iblk
  rw [V_main_arg2]
  blk_ext [i3, bOf, gOf]

/-- A grid point's query scales. -/
theorem iblk0 (t : Fin cfg0.N) (j : Fin 24) :
    (iblk m c 0 t : S24.Idx → EReal) (ix1 j) = (aQs m c) (ix1 j) := by
  obtain ⟨i0, i1, i2, i3, i4, i5, i6⟩ := idx t
  unfold iblk
  rw [V_main_arg3]
  blk_ext [i0]

/-- A grid point's key scales. -/
theorem iblk4 (t : Fin cfg0.N) (k : Fin 1024) :
    (iblk m c 4 t : S1x1x1024.Idx → EReal) (ix3 0 0 k)
      = (aKs m c) (ix3 (bOf t) k (gOf t)) := by
  obtain ⟨i0, i1, i2, i3, i4, i5, i6⟩ := idx t
  unfold iblk
  rw [show V m c (Pipeline.arrRef spec0 4) = _ from V_v1 m c, ← scale_apply (aKs m c)]
  blk_ext [i4, bOf, gOf]

/-- A grid point's value scales. -/
theorem iblk5 (t : Fin cfg0.N) (k : Fin 1024) :
    (iblk m c 5 t : S1x1x1024.Idx → EReal) (ix3 0 0 k)
      = (aVs m c) (ix3 (bOf t) k (gOf t)) := by
  obtain ⟨i0, i1, i2, i3, i4, i5, i6⟩ := idx t
  unfold iblk
  rw [show V m c (Pipeline.arrRef spec0 5) = _ from V_v3 m c, ← scale_apply (aVs m c)]
  blk_ext [i5, bOf, gOf]

/-! ## The result -/

section
variable (q : S2x1024x3072.Idx → EReal) (k v : S2x1024x512.Idx → EReal) (qs : S24.Idx → EReal) (ks vs : S2x1024x4.Idx → EReal)

/-- Attention of batch `b`, key head `g`, query head `h` of the group, at query row `R` and lane `e`. -/
def attnAt (b : Fin 2) (g : Fin 4) (h : Fin 6) (R : ℕ) (e : Fin 128) : EReal :=
  attn2 1024
    (fun j => sc 0 (fun j e => k (ix3 b (key j) ⟨128 * g.val + e.val, by omega⟩))
      (fun r e => q (ix3 b (key r) ⟨768 * g.val + (lane h e).val, by have := (lane h e).isLt; omega⟩))
      (fun j => ks (ix3 b (key j) g) * ((qs (ix1 ⟨g.val * 6 + h.val, by omega⟩) * cS) * cL)) j R)
    (fun j => v (ix3 b (key j) ⟨128 * g.val + e.val, by omega⟩) * vs (ix3 b (key j) g))

/-- The kernel's result. -/
def kOut : S2x1024x3072.Idx → EReal := fun y =>
  attnAt q k v qs ks vs (y 0) ⟨(y 2).val / 768, by have h : (y 2).val < 3072 := (y 2).isLt; omega⟩
    ⟨(y 2).val % 768 / 128, by omega⟩ (y 1).val ⟨(y 2).val % 128, Nat.mod_lt _ (by norm_num)⟩

end

/-- A point's attention, from the arguments. -/
theorem pointAt_eq (t : Fin cfg0.N) (h : Fin 6) (R : ℕ) (e : Fin 128) :
    pointAt (grid0.coords t) (ms0_0 t) (hs0_0 t) (iblk m c 0 t) (iblk m c 1 t) (iblk m c 2 t) (iblk m c 3 t) (iblk m c 4 t) (iblk m c 5 t) h R e
      = attnAt (aQ m c) (aK m c) (aV m c)
          (aQs m c) (aKs m c) (aVs m c) (bOf t) (gOf t) h R e := by
  have e1 : kvOf (iblk m c 2 t) = fun j e => (aK m c) (ix3 (bOf t) (key j) ⟨128 * (gOf t).val + e.val, by omega⟩) :=
    funext fun j => funext fun e => iblk2 m c t (key j) e
  have e2 : qOf (iblk m c 1 t) h = fun r e => (aQ m c)
      (ix3 (bOf t) (key r) ⟨768 * (gOf t).val + (lane h e).val, by have := (lane h e).isLt; omega⟩) :=
    funext fun r => funext fun e => iblk1 m c t (key r) (lane h e)
  have e3 : kmOf (grid0.coords t) (ms0_0 t) (hs0_0 t) (iblk m c 0 t) (iblk m c 4 t) h
      = fun j => (aKs m c) (ix3 (bOf t) (key j) (gOf t))
          * (((aQs m c) (ix1 ⟨(gOf t).val * 6 + h.val, by omega⟩) * cS) * cL) := by
    funext j
    unfold kmOf
    rw [ldS_apply, iblk4]
    exact congrArg (fun z => _ * (z * cS * cL)) (iblk0 m c t _)
  have e4 : vOf (iblk m c 3 t) (iblk m c 5 t) e = fun j => (aV m c)
      (ix3 (bOf t) (key j) ⟨128 * (gOf t).val + e.val, by omega⟩) * (aVs m c) (ix3 (bOf t) (key j) (gOf t)) := by
    funext j
    unfold vOf
    rw [iblk3, iblk5]
  unfold pointAt attnAt
  rw [e1, e2, e3, e4]

/-- The result array after the run. -/
theorem arr_eq : (dats m 0 c).arrAt 6 cfg0.N
    = kOut (aQ m c) (aK m c) (aV m c)
        (aQs m c) (aKs m c) (aVs m c) := by
  refine (dats m 0 c).arrAt_eq_of_covers 6 _ (by decide +kernel) fun t hf y => ?_
  blk_simp
  rw [after0_6]
  unfold outsAt0
  rw [out_eq]
  obtain ⟨i0, i1, i2, i3, i4, i5, i6⟩ := idx t
  have e0 : (((win0_6.blk t).view.emb y) 0).val = (bOf t).val := by
    have h0 : (y 0).val < 1 := (y 0).isLt
    blk_simp [i6, bOf]
  have e1 : (((win0_6.blk t).view.emb y) 1).val = (y 1).val := by blk_simp [i6]
  have e2 : (((win0_6.blk t).view.emb y) 2).val = 768 * (gOf t).val + (y 2).val := by blk_simp [i6, gOf]; omega
  have hy : (y 2).val < 768 := (y 2).isLt
  unfold pointOut kOut
  rw [pointAt_eq]
  congr 1
  · exact Fin.ext e0.symm
  · exact Fin.ext (by show (gOf t).val = (((win0_6.blk t).view.emb y) 2).val / 768; rw [e2]; omega)
  · exact Fin.ext (by show (y 2).val / 128 = (((win0_6.blk t).view.emb y) 2).val % 768 / 128; rw [e2]; omega)
  · exact e1.symm
  · exact Fin.ext (by show (y 2).val % 128 = (((win0_6.blk t).view.emb y) 2).val % 128; rw [e2]; omega)

end Cert.KernelIdeal.Hand

end
-- ==== Proof.ReferenceAt.lean ====
/- The reference's result at one element: the softmax over the keys not after the query, weighted with the scaled values. -/
module

public import proofs.«01_k».proof.Proof.ReferenceValue
public import proofs.«01_k».proof.Proof.Math
public import Idealize.ShloMosaic.Lib.Pointwise
public import Idealize.ShloMosaic.Lib.ValueLayout
public import Idealize.ShloMosaic.Lib.WordCmp

@[expose] public section

noncomputable section

namespace Cert.ReferenceIdeal.Hand

open Cert.ReferenceIdeal Cert.ReferenceIdeal.Gen Idealize.ShloMosaic Cert.Attn

variable (x : FVec Ideal S2x1024x3072 .f32) (k v : FVec Ideal S2x1024x512 .f32) (qs : FVec Ideal S24 .f32) (ks vs : FVec Ideal S2x1024x4 .f32)
  (b : Fin 2) (g : Fin 4) (h : Fin 6) (q j : Fin 1024) (e : Fin 128)

/-- A scale of the keys does not depend on the query or the query head. -/
theorem overKeys_apply : overKeys ks (ix5 b g h q j) = ks (ix3 b j g) := by
  unfold overKeys
  pointwise

/-- A query scale depends on the query head alone. -/
theorem overHeads_apply : overHeads qs (ix5 b g h q j) = qs (ix1 ⟨g.val * 6 + h.val, by omega⟩) * Ideal.ofBits .f32 0x3DB504F3#32 := by
  unfold overHeads
  pointwise

/-- A query against a key. -/
theorem rRaw_apply : rRaw x k (ix5 b g h q j)
    = ∑ e : Fin 128, k (ix3 b j ⟨g.val * 128 + e.val, by omega⟩) * x (ix3 b q ⟨g.val * 768 + h.val * 128 + e.val, by omega⟩) := by
  unfold rRaw
  pointwise

/-- A key is visible when it is not after the query. -/
theorem rVisible_apply : rVisible (ix2 q j) = BitVec.ofBool (decide (j.val ≤ q.val)) := by
  unfold rVisible
  pointwise
  rw [WordCmp.cmpi_sle_of_lt (by rw [WordCmp.toNat_ofNat_of_lt (by omega)]; omega) (by rw [WordCmp.toNat_ofNat_of_lt (by omega)]; omega),
    WordCmp.toNat_ofNat_of_lt (by omega), WordCmp.toNat_ofNat_of_lt (by omega)]

/-- A masked score. -/
theorem rScore_apply : rScore x k qs ks (ix5 b g h q j)
    = if j.val ≤ q.val then (rRaw x k (ix5 b g h q j) * (qs (ix1 ⟨g.val * 6 + h.val, by omega⟩) * Ideal.ofBits .f32 0x3DB504F3#32)) * ks (ix3 b j g) else ⊥ := by
  unfold rScore
  pointwise
  rw [rVisible_apply, overHeads_apply, overKeys_apply]
  have hb : Ideal.ofBits .f32 4286578688#32 = (⊥ : EReal) := by simp [Ideal.ofBits, Ideal.ieee]
  rw [hb]
  by_cases h : j.val ≤ q.val
  · rw [if_pos h, decide_eq_true h]; rfl
  · rw [if_neg h, decide_eq_false h]; rfl

/-- A softmax numerator. -/
theorem rExp_apply (s : FVec Ideal S2x4x6x1024x1024 .f32) : rExp s (ix5 b g h q j)
    = Ideal.exp (s (ix5 b g h q j) - (Finset.univ : Finset (Fin 1024)).sup fun j => s (ix5 b g h q j)) := by
  unfold rExp alongKeys column
  pointwise
  have hb : Ideal.ofBits .f32 4286578688#32 = (⊥ : EReal) := by simp [Ideal.ofBits, Ideal.ieee]
  rw [hb]
  rfl

/-- A softmax weight, times the value scale. -/
theorem rProb_apply (s : FVec Ideal S2x4x6x1024x1024 .f32) : rProb vs s (ix5 b g h q j)
    = (s (ix5 b g h q j) * Ideal.div 1 (∑ j : Fin 1024, s (ix5 b g h q j))) * vs (ix3 b j g) := by
  unfold rProb alongKeys column overKeys
  pointwise

/-- A weighted sum of values. -/
theorem rMix_apply (p : FVec Ideal S2x4x6x1024x1024 .f32) : rMix v p (ix3 b q ⟨g.val * 768 + h.val * 128 + e.val, by omega⟩)
    = ∑ j : Fin 1024, v (ix3 b j ⟨g.val * 128 + e.val, by omega⟩) * p (ix5 b g h q j) := by
  unfold rMix
  pointwise

end Cert.ReferenceIdeal.Hand

end
-- ==== Proof.Equation.lean ====
/- The two results are equal: base-two exponentials of scores scaled by `1 / ln 2` are the exponentials of the scores, and the
   value scales and the division commute with the sum over the keys. -/
module

public import proofs.«01_k».proof.Proof.KernelValue
public import proofs.«01_k».proof.Proof.ReferenceAt

@[expose] public section

noncomputable section

namespace Cert.Attn

open Idealize.ShloMosaic

/-- The maximum over the first `n` numbers. -/
theorem sup_range_fin (n : ℕ) (f : ℕ → EReal) : (Finset.range n).sup f = (Finset.univ : Finset (Fin n)).sup fun j => f j.val := by
  apply le_antisymm
  · exact Finset.sup_le fun k hk => Finset.le_sup (f := fun j : Fin n => f j.val) (Finset.mem_univ (⟨k, Finset.mem_range.mp hk⟩ : Fin n))
  · exact Finset.sup_le fun j _ => Finset.le_sup (f := f) (Finset.mem_range.mpr j.isLt)

/-- The kernel's form of attention, with scores scaled by `1 / ln 2`, is the reference's. -/
theorem attn2_eq (t v w : Fin 1024 → EReal) (T V : ℕ → EReal) (hT : ∀ j : Fin 1024, T j.val = t j * (((Real.log 2)⁻¹ : ℝ) : EReal))
    (hV : ∀ j : Fin 1024, V j.val = v j * w j) :
    attn2 1024 T V = ∑ j : Fin 1024, v j * ((Ideal.exp (t j - Finset.univ.sup t)
      * Ideal.div 1 (∑ j : Fin 1024, Ideal.exp (t j - Finset.univ.sup t))) * w j) := by
  rw [← softmax_eq Finset.univ t v w (fun j => T j.val) hT]
  unfold attn2
  rw [sup_range_fin, Finset.sum_range, Finset.sum_range]
  refine congrArg (· * _) (Finset.sum_congr rfl fun j _ => ?_)
  rw [hV]

end Cert.Attn

namespace Cert.Equation

open Cert.KernelIdeal Idealize.ShloMosaic Cert.Attn

variable (x : S2x1024x3072.Idx → EReal) (k v : S2x1024x512.Idx → EReal) (qs : S24.Idx → EReal) (ks vs : S2x1024x4.Idx → EReal)

/-- The key numbered by an index is that index. -/
theorem key_val (j : Fin 1024) : KernelIdeal.Hand.key j.val = j := Fin.ext (Nat.mod_eq_of_lt j.isLt)

/-- The kernel's attention of one query row and lane is the reference's result there. -/
theorem attnAt_eq (b : Fin 2) (g : Fin 4) (h : Fin 6) (q : Fin 1024) (e : Fin 128) :
    KernelIdeal.Hand.attnAt x k v qs ks vs b g h q.val e
      = ReferenceIdeal.Hand.rOut x k v qs ks vs (ix3 b q ⟨g.val * 768 + h.val * 128 + e.val, by omega⟩) := by
  unfold ReferenceIdeal.Hand.rOut
  rw [ReferenceIdeal.Hand.rMix_apply]
  simp only [ReferenceIdeal.Hand.rProb_apply, ReferenceIdeal.Hand.rExp_apply]
  unfold KernelIdeal.Hand.attnAt
  refine attn2_eq (fun j => ReferenceIdeal.Hand.rScore x k qs ks (ix5 b g h q j)) (fun j => v (ix3 b j ⟨g.val * 128 + e.val, by omega⟩))
    (fun j => vs (ix3 b j g)) _ _ (fun j => ?_) (fun j => ?_)
  · rw [ReferenceIdeal.Hand.rScore_apply, ReferenceIdeal.Hand.rRaw_apply]
    unfold sc
    by_cases hj : j.val ≤ q.val
    · rw [if_pos (by omega), if_pos hj]
      beta_reduce
      simp only [key_val]
      have hs : (∑ c : Fin 128, k (ix3 b j ⟨128 * g.val + c.val, by omega⟩)
            * x (ix3 b q ⟨768 * g.val + (KernelIdeal.Hand.lane h c).val, by have := (KernelIdeal.Hand.lane h c).isLt; omega⟩))
          = ∑ c : Fin 128, k (ix3 b j ⟨g.val * 128 + c.val, by omega⟩) * x (ix3 b q ⟨g.val * 768 + h.val * 128 + c.val, by omega⟩) := by
        refine Finset.sum_congr rfl fun c _ => ?_
        congr 3
        · exact Fin.ext (by show 128 * g.val + c.val = g.val * 128 + c.val; omega)
        · exact Fin.ext (by show 768 * g.val + (128 * h.val + c.val) = g.val * 768 + h.val * 128 + c.val; omega)
      refine (congrArg (· * _) hs).trans ?_
      show _ * (_ * ((_ * KernelIdeal.Hand.cS) * KernelIdeal.Hand.cL)) = _
      unfold KernelIdeal.Hand.cS KernelIdeal.Hand.cL
      ac_rfl
    · rw [if_neg (by omega), if_neg hj]
      exact (bot_mul_pos (inv_pos.mpr (Real.log_pos (by norm_num)))).symm
  · show v _ * vs _ = v _ * vs _
    rw [key_val]
    congr 3
    exact Fin.ext (by show 128 * g.val + e.val = g.val * 128 + e.val; omega)

/-- The kernel's result is the reference's. -/
theorem result_eq : KernelIdeal.Hand.kOut x k v qs ks vs = ReferenceIdeal.Hand.rOut x k v qs ks vs := by
  funext y
  have h2 : (y 2).val < 3072 := (y 2).isLt
  unfold KernelIdeal.Hand.kOut
  refine (attnAt_eq x k v qs ks vs (y 0) _ _ (y 1) _).trans (congrArg _ (funext fun a => ?_))
  match a with
  | ⟨0, _⟩ => rfl
  | ⟨1, _⟩ => rfl
  | ⟨2, _⟩ => exact Fin.ext (by show (y 2).val / 768 * 768 + (y 2).val % 768 / 128 * 128 + (y 2).val % 128 = (y 2).val; omega)

end Cert.Equation

end
-- ==== Proof.lean ====
/- The claim: the frames of the three programs, the named constant that is kept, and the equation between the kernel's result and
   the reference's, put together from the modules under `Proof/`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init
public import proofs.«01_k».proof.Proof.Gen.KernelIdeal.Value
public import proofs.«01_k».proof.Proof.ReferenceRun
public import proofs.«01_k».proof.Proof.Equation

@[expose] public section

noncomputable section

namespace Cert.Proof

open Idealize.ShloMosaic Idealize.SL.Sem Cert.Kernel

/-- The three programs run without a fault and leave their arguments alone, the named constant is the constant it names, and the
idealized kernel returns what the idealized reference returns, at every input. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  IdealRules.named_const.statement Cert.KernelIdeal.κ "log2_e" .f32 0x3FB8AA3B#32 (((Real.log 2)⁻¹ : ℝ) : EReal) rfl, by
  pair_intro
  · run_from Cert.KernelIdeal.Value.run_blocks m g
  · run_from Cert.ReferenceIdeal.Hand.run m' g'
    exact ((Cert.KernelIdeal.Hand.arr_eq m c).trans (Cert.Equation.result_eq _ _ _ _ _ _)).symm⟩

end Cert.Proof

end
